-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v41) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)) (v4 : (c : Dev Cert.ProjIdeal.nD) → Buf (Elt Ideal) ((c.tc : Thread Cert.ProjIdeal.nD Cert.ProjIdeal.τ).loc Cert.ProjIdeal.main_v10_4)) (v5 : (c : Dev Cert.ProjIdeal.nD) → Buf (Elt Ideal) ((c.tc : Thread Cert.ProjIdeal.nD Cert.ProjIdeal.τ).loc Cert.ProjIdeal.main_v10_5)) (v6 : (c : Dev Cert.ProjIdeal.nD) → Buf (Elt Ideal) ((c.tc : Thread Cert.ProjIdeal.nD Cert.ProjIdeal.τ).loc Cert.ProjIdeal.main_v10_6)) (v7 : (c : Dev Cert.ProjIdeal.nD) → Buf (Elt Ideal) ((c.tc : Thread Cert.ProjIdeal.nD Cert.ProjIdeal.τ).loc Cert.ProjIdeal.main_v10_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_v10_4) = v4 c
          ∧ r.2.mem ((c.tc : Thread Cert.ProjIdeal.nD Cert.ProjIdeal.τ).loc Cert.ProjIdeal.main_v10_5) = v5 c
          ∧ r.2.mem ((c.tc : Thread Cert.ProjIdeal.nD Cert.ProjIdeal.τ).loc Cert.ProjIdeal.main_v10_6) = v6 c
          ∧ r.2.mem ((c.tc : Thread Cert.ProjIdeal.nD Cert.ProjIdeal.τ).loc Cert.ProjIdeal.main_v10_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v24) = v0 c
          ∧ r.2.mem ((c.tc : Thread Cert.ProjReferenceIdeal.nD Cert.ProjReferenceIdeal.τ).loc Cert.ProjReferenceIdeal.main_v31) = v1 c
          ∧ r.2.mem ((c.tc : Thread Cert.ProjReferenceIdeal.nD Cert.ProjReferenceIdeal.τ).loc Cert.ProjReferenceIdeal.main_v21) = v2 c
          ∧ r.2.mem ((c.tc : Thread Cert.ProjReferenceIdeal.nD Cert.ProjReferenceIdeal.τ).loc Cert.ProjReferenceIdeal.main_v32) = v3 c
          ∧ r.2.mem ((c.tc : Thread Cert.ProjReferenceIdeal.nD Cert.ProjReferenceIdeal.τ).loc Cert.ProjReferenceIdeal.main_v33) = v4 c
          ∧ r.2.mem ((c.tc : Thread Cert.ProjReferenceIdeal.nD Cert.ProjReferenceIdeal.τ).loc Cert.ProjReferenceIdeal.main_v34) = v5 c
          ∧ r.2.mem ((c.tc : Thread Cert.ProjReferenceIdeal.nD Cert.ProjReferenceIdeal.τ).loc Cert.ProjReferenceIdeal.main_v38) = v6 c
          ∧ r.2.mem ((c.tc : Thread Cert.ProjReferenceIdeal.nD Cert.ProjReferenceIdeal.τ).loc Cert.ProjReferenceIdeal.main_v40) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal (hProjIdeal := hProjIdeal) (hProjReferenceIdeal := hProjReferenceIdeal)
-- ==== Kernel.lean ====
abbrev S1x256x512 : Shape := ⟨3, ![1, 256, 512]⟩
abbrev S1x256x128 : Shape := ⟨3, ![1, 256, 128]⟩
abbrev S2x2x4096x128 : Shape := ⟨4, ![2, 2, 4096, 128]⟩
abbrev S2x2x32x128 : Shape := ⟨4, ![2, 2, 32, 128]⟩
abbrev S32x8x512 : Shape := ⟨3, ![32, 8, 512]⟩
abbrev S32x8x128 : Shape := ⟨3, ![32, 8, 128]⟩
abbrev S2x2x32x1x128 : Shape := ⟨5, ![2, 2, 32, 1, 128]⟩
abbrev S32x2x2x128 : Shape := ⟨4, ![32, 2, 2, 128]⟩
abbrev S1x8x512 : Shape := ⟨3, ![1, 8, 512]⟩
abbrev S1x8x128 : Shape := ⟨3, ![1, 8, 128]⟩
abbrev S2x2x128x128 : Shape := ⟨4, ![2, 2, 128, 128]⟩
abbrev S2x2x1x1x128 : Shape := ⟨5, ![2, 2, 1, 1, 128]⟩
abbrev S1x2x2x128 : Shape := ⟨4, ![1, 2, 2, 128]⟩
abbrev S8x512 : Shape := ⟨2, ![8, 512]⟩
abbrev S1x128 : Shape := ⟨2, ![1, 128]⟩
abbrev S8x1 : Shape := ⟨2, ![8, 1]⟩
abbrev S1x8x64 : Shape := ⟨3, ![1, 8, 64]⟩
abbrev S8x64 : Shape := ⟨2, ![8, 64]⟩
abbrev S32x64 : Shape := ⟨2, ![32, 64]⟩
abbrev S32x1 : Shape := ⟨2, ![32, 1]⟩
abbrev S1x1x128x128 : Shape := ⟨4, ![1, 1, 128, 128]⟩
abbrev S128x128 : Shape := ⟨2, ![128, 128]⟩
abbrev S1x1x1x1x128 : Shape := ⟨5, ![1, 1, 1, 1, 128]⟩
abbrev S1x64 : Shape := ⟨2, ![1, 64]⟩
abbrev S128x64 : Shape := ⟨2, ![128, 64]⟩
abbrev S32x128 : Shape := ⟨2, ![32, 128]⟩
abbrev S32 : Shape := ⟨1, ![32]⟩
abbrev S1x8x1 : Shape := ⟨3, ![1, 8, 1]⟩
abbrev S8x128 : Shape := ⟨2, ![8, 128]⟩
abbrev S8 : Shape := ⟨1, ![8]⟩
abbrev S128 : Shape := ⟨1, ![128]⟩
abbrev S1x1x1x128 : Shape := ⟨4, ![1, 1, 1, 128]⟩

abbrev nBuf : Space → Nat
  | .hbm => 11
  | .vmem => 13
  | .smem => 0
  | _ => 0

abbrev bufTy : (tb : Table) → Fin (tcTables nBuf tb) → BufTy
  | .hbm, ⟨0, _⟩ => ⟨S1x256x512, .bf16⟩
  | .hbm, ⟨1, _⟩ => ⟨S1x256x128, .f32⟩
  | .hbm, ⟨2, _⟩ => ⟨S2x2x4096x128, .bf16⟩
  | .hbm, ⟨3, _⟩ => ⟨S2x2x32x128, .bf16⟩
  | .hbm, ⟨4, _⟩ => ⟨S32x8x512, .bf16⟩
  | .hbm, ⟨5, _⟩ => ⟨S32x8x512, .f32⟩
  | .hbm, ⟨6, _⟩ => ⟨S32x8x128, .f32⟩
  | .hbm, ⟨7, _⟩ => ⟨S2x2x32x128, .f32⟩
  | .hbm, ⟨8, _⟩ => ⟨S2x2x32x1x128, .f32⟩
  | .hbm, ⟨9, _⟩ => ⟨S32x8x512, .f32⟩
  | .hbm, ⟨10, _⟩ => ⟨S32x2x2x128, .i32⟩
  | .local _ .vmem, ⟨0, _⟩ => ⟨S1x8x512, .f32⟩
  | .local _ .vmem, ⟨1, _⟩ => ⟨S1x8x512, .f32⟩
  | .local _ .vmem, ⟨2, _⟩ => ⟨S1x8x128, .f32⟩
  | .local _ .vmem, ⟨3, _⟩ => ⟨S1x8x128, .f32⟩
  | .local _ .vmem, ⟨4, _⟩ => ⟨S2x2x128x128, .bf16⟩
  | .local _ .vmem, ⟨5, _⟩ => ⟨S2x2x128x128, .bf16⟩
  | .local _ .vmem, ⟨6, _⟩ => ⟨S2x2x1x1x128, .f32⟩
  | .local _ .vmem, ⟨7, _⟩ => ⟨S2x2x1x1x128, .f32⟩
  | .local _ .vmem, ⟨8, _⟩ => ⟨S1x8x512, .f32⟩
  | .local _ .vmem, ⟨9, _⟩ => ⟨S1x8x512, .f32⟩
  | .local _ .vmem, ⟨10, _⟩ => ⟨S1x2x2x128, .i32⟩
  | .local _ .vmem, ⟨11, _⟩ => ⟨S1x2x2x128, .i32⟩
  | .local _ .vmem, ⟨12, _⟩ => ⟨S8x512, .f32⟩
  | _, _ => ⟨S1x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x2x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x256x512 : Shape := ⟨3, ![1, 256, 512]⟩
abbrev S1x256x128 : Shape := ⟨3, ![1, 256, 128]⟩
abbrev S2x2x4096x128 : Shape := ⟨4, ![2, 2, 4096, 128]⟩
abbrev S2x2x32x128 : Shape := ⟨4, ![2, 2, 32, 128]⟩
abbrev S32x8x2x4x64 : Shape := ⟨5, ![32, 8, 2, 4, 64]⟩
abbrev S2x2x32x256x64 : Shape := ⟨5, ![2, 2, 32, 256, 64]⟩
abbrev S32x256x2x2x64 : Shape := ⟨5, ![32, 256, 2, 2, 64]⟩
abbrev S2x2x32x64 : Shape := ⟨4, ![2, 2, 32, 64]⟩
abbrev S32x2x2x64 : Shape := ⟨4, ![32, 2, 2, 64]⟩
abbrev S32x1x2x2x64 : Shape := ⟨5, ![32, 1, 2, 2, 64]⟩
abbrev S32x257x2x2x64 : Shape := ⟨5, ![32, 257, 2, 2, 64]⟩
abbrev S8 : Shape := ⟨1, ![8]⟩
abbrev S_ : Shape := ⟨0, ![]⟩
abbrev S257 : Shape := ⟨1, ![257]⟩
abbrev S8x1 : Shape := ⟨2, ![8, 1]⟩
abbrev S1x257 : Shape := ⟨2, ![1, 257]⟩
abbrev S8x257 : Shape := ⟨2, ![8, 257]⟩
abbrev S32x257x2x1x64 : Shape := ⟨5, ![32, 257, 2, 1, 64]⟩
abbrev S32x257x2x64 : Shape := ⟨4, ![32, 257, 2, 64]⟩
abbrev S32x2x257x8x4 : Shape := ⟨5, ![32, 2, 257, 8, 4]⟩
abbrev S32x8x2x4x257 : Shape := ⟨5, ![32, 8, 2, 4, 257]⟩
abbrev S2x4 : Shape := ⟨2, ![2, 4]⟩
abbrev S1x1x2x4x1 : Shape := ⟨5, ![1, 1, 2, 4, 1]⟩
abbrev S1x8x1x1x257 : Shape := ⟨5, ![1, 8, 1, 1, 257]⟩
abbrev S1x8x2x4x257 : Shape := ⟨5, ![1, 8, 2, 4, 257]⟩
abbrev S32x8x2x4 : Shape := ⟨4, ![32, 8, 2, 4]⟩
abbrev S32x8x2x4x1 : Shape := ⟨5, ![32, 8, 2, 4, 1]⟩
abbrev S32x2x64x8x4 : Shape := ⟨5, ![32, 2, 64, 8, 4]⟩
abbrev S32x8x128 : Shape := ⟨3, ![32, 8, 128]⟩
abbrev S32x8x8 : Shape := ⟨3, ![32, 8, 8]⟩
abbrev S32x8x512 : Shape := ⟨3, ![32, 8, 512]⟩
abbrev S32x8x2x257 : Shape := ⟨4, ![32, 8, 2, 257]⟩
abbrev S1x8x1x257 : Shape := ⟨4, ![1, 8, 1, 257]⟩
abbrev S32x8x2x16 : Shape := ⟨4, ![32, 8, 2, 16]⟩
abbrev S32x8x2x16x1 : Shape := ⟨5, ![32, 8, 2, 16, 1]⟩
abbrev S1x1x1x1x257 : Shape := ⟨5, ![1, 1, 1, 1, 257]⟩
abbrev S32x8x2x16x257 : Shape := ⟨5, ![32, 8, 2, 16, 257]⟩
abbrev S2 : Shape := ⟨1, ![2]⟩
abbrev S1x2 : Shape := ⟨2, ![1, 2]⟩
abbrev S8x2 : Shape := ⟨2, ![8, 2]⟩
abbrev S32x8x2x256 : Shape := ⟨4, ![32, 8, 2, 256]⟩
abbrev S32x8x2x128x2 : Shape := ⟨5, ![32, 8, 2, 128, 2]⟩
abbrev S32x2x128x8x2 : Shape := ⟨5, ![32, 2, 128, 8, 2]⟩
abbrev S1x1x1x8x2 : Shape := ⟨5, ![1, 1, 1, 8, 2]⟩
abbrev S32x2x128 : Shape := ⟨3, ![32, 2, 128]⟩
abbrev S32x8x2x1 : Shape := ⟨4, ![32, 8, 2, 1]⟩
abbrev S32x8x2 : Shape := ⟨3, ![32, 8, 2]⟩
abbrev S32x2x8 : Shape := ⟨3, ![32, 2, 8]⟩
abbrev S1x1x8 : Shape := ⟨3, ![1, 1, 8]⟩
abbrev S32x2 : Shape := ⟨2, ![32, 2]⟩
abbrev S32x2x1 : Shape := ⟨3, ![32, 2, 1]⟩
abbrev S32x2x1x128 : Shape := ⟨4, ![32, 2, 1, 128]⟩
abbrev S32x2x2x128 : Shape := ⟨4, ![32, 2, 2, 128]⟩

abbrev nBuf : Space → Nat
  | .hbm => 201
  | .vmem => 0
  | .smem => 0
  | _ => 0

abbrev hbmTy0_0 (i : Nat) : BufTy := match i % 128 with
  | 0 => ⟨S1x256x512, .bf16⟩
  | 1 => ⟨S1x256x128, .f32⟩
  | 2 => ⟨S2x2x4096x128, .bf16⟩
  | 3 => ⟨S2x2x32x128, .bf16⟩
  | 4 => ⟨S1x256x512, .f32⟩
  | 5 => ⟨S32x8x2x4x64, .f32⟩
  | 6 => ⟨S2x2x4096x128, .f32⟩
  | 7 => ⟨S2x2x32x256x64, .f32⟩
  | 8 => ⟨S32x256x2x2x64, .f32⟩
  | 9 => ⟨S2x2x32x128, .f32⟩
  | 10 => ⟨S2x2x32x64, .f32⟩
  | 11 => ⟨S32x2x2x64, .f32⟩
  | 12 => ⟨S32x1x2x2x64, .f32⟩
  | 13 => ⟨S32x257x2x2x64, .f32⟩
  | 14 => ⟨S8, .i32⟩
  | 15 => ⟨S_, .i32⟩
  | 16 => ⟨S8, .i32⟩
  | 17 => ⟨S8, .i32⟩
  | 18 => ⟨S257, .i32⟩
  | 19 => ⟨S_, .i32⟩
  | 20 => ⟨S257, .i32⟩
  | 21 => ⟨S257, .i32⟩
  | 22 => ⟨S_, .i32⟩
  | 23 => ⟨S257, .i32⟩
  | 24 => ⟨S257, .i32⟩
  | 25 => ⟨S_, .i32⟩
  | 26 => ⟨S257, .i32⟩
  | 27 => ⟨S257, .i32⟩
  | 28 => ⟨S8x1, .i32⟩
  | 29 => ⟨S1x257, .i32⟩
  | 30 => ⟨S8x257, .i32⟩
  | 31 => ⟨S8x257, .i32⟩
  | 32 => ⟨S8x257, .i32⟩
  | 33 => ⟨S8x257, .f32⟩
  | 34 => ⟨S32x257x2x1x64, .f32⟩
  | 35 => ⟨S32x257x2x64, .f32⟩
  | 36 => ⟨S32x2x257x8x4, .f32⟩
  | 37 => ⟨S32x8x2x4x257, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S2x4, .f32⟩
  | 52 => ⟨S1x1x2x4x1, .f32⟩
  | 53 => ⟨S1x8x1x1x257, .f32⟩
  | 54 => ⟨S1x8x2x4x257, .f32⟩
  | 55 => ⟨S1x8x2x4x257, .f32⟩
  | 56 => ⟨S1x8x2x4x257, .f32⟩
  | 57 => ⟨S32x8x2x4x257, .f32⟩
  | 58 => ⟨S32x8x2x4x257, .f32⟩
  | 59 => ⟨S_, .f32⟩
  | 60 => ⟨S8x257, .f32⟩
  | 61 => ⟨S8x257, .i1⟩
  | 62 => ⟨S1x8x1x1x257, .i1⟩
  | 63 => ⟨S_, .f32⟩
  | 64 => ⟨S_, .f32⟩
  | 65 => ⟨S32x8x2x4x257, .i1⟩
  | 66 => ⟨S32x8x2x4x257, .f32⟩
  | 67 => ⟨S32x8x2x4x257, .f32⟩
  | 68 => ⟨S_, .f32⟩
  | 69 => ⟨S32x8x2x4, .f32⟩
  | 70 => ⟨S32x8x2x4x1, .f32⟩
  | 71 => ⟨S32x8x2x4x257, .f32⟩
  | 72 => ⟨S32x8x2x4x257, .f32⟩
  | 73 => ⟨S32x8x2x4x257, .f32⟩
  | 74 => ⟨S_, .f32⟩
  | 75 => ⟨S_, .f32⟩
  | 76 => ⟨S32x8x2x4x257, .i1⟩
  | 77 => ⟨S32x8x2x4x257, .f32⟩
  | 78 => ⟨S32x8x2x4x257, .f32⟩
  | 79 => ⟨S_, .f32⟩
  | 80 => ⟨S32x8x2x4, .f32⟩
  | 81 => ⟨S32x8x2x4x1, .f32⟩
  | 82 => ⟨S_, .f32⟩
  | 83 => ⟨S32x8x2x4x1, .f32⟩
  | 84 => ⟨S32x8x2x4x1, .f32⟩
  | 85 => ⟨S32x8x2x4x257, .f32⟩
  | 86 => ⟨S32x8x2x4x257, .f32⟩
  | 87 => ⟨S32x257x2x1x64, .f32⟩
  | 88 => ⟨S32x257x2x64, .f32⟩
  | 89 => ⟨S32x2x64x8x4, .f32⟩
  | 90 => ⟨S32x8x2x4x64, .f32⟩
  | 91 => ⟨S32x8x128, .f32⟩
  | 92 => ⟨S32x8x8, .f32⟩
  | 93 => ⟨S32x8x2x4, .f32⟩
  | 94 => ⟨S32x8x2x4x1, .f32⟩
  | 95 => ⟨S32x8x2x4x64, .f32⟩
  | 96 => ⟨S32x8x2x4x64, .f32⟩
  | 97 => ⟨S32x8x512, .f32⟩
  | 98 => ⟨S_, .f32⟩
  | 99 => ⟨S32x8x2x257, .f32⟩
  | 100 => ⟨S257, .i32⟩
  | 101 => ⟨S1x257, .i32⟩
  | 102 => ⟨S_, .i32⟩
  | 103 => ⟨S_, .i32⟩
  | 104 => ⟨S8, .i32⟩
  | 105 => ⟨S8, .i32⟩
  | 106 => ⟨S8, .i32⟩
  | 107 => ⟨S_, .i32⟩
  | 108 => ⟨S8, .i32⟩
  | 109 => ⟨S8, .i1⟩
  | 110 => ⟨S8, .i32⟩
  | 111 => ⟨S8, .i32⟩
  | 112 => ⟨S_, .i32⟩
  | 113 => ⟨S8, .i32⟩
  | 114 => ⟨S8, .i1⟩
  | 115 => ⟨S8, .i1⟩
  | 116 => ⟨S_, .i32⟩
  | 117 => ⟨S8, .i32⟩
  | 118 => ⟨S8, .i32⟩
  | 119 => ⟨S8, .i32⟩
  | 120 => ⟨S8x1, .i32⟩
  | 121 => ⟨S_, .i32⟩
  | 122 => ⟨S1x257, .i32⟩
  | 123 => ⟨S1x257, .i1⟩
  | 124 => ⟨S8x257, .i32⟩
  | 125 => ⟨S8x257, .i32⟩
  | 126 => ⟨S8x257, .i1⟩
  | 127 => ⟨S8x257, .i1⟩
  | _ => ⟨S1x256x512, .bf16⟩

abbrev hbmTy0_1 (i : Nat) : BufTy := match i % 128 with
  | 0 => ⟨S8x257, .i1⟩
  | 1 => ⟨S_, .i32⟩
  | 2 => ⟨S8x1, .i32⟩
  | 3 => ⟨S8x1, .i32⟩
  | 4 => ⟨S8x257, .i32⟩
  | 5 => ⟨S8x257, .i32⟩
  | 6 => ⟨S8x257, .i1⟩
  | 7 => ⟨S8x257, .i1⟩
  | 8 => ⟨S1x8x1x257, .i1⟩
  | 9 => ⟨S_, .f32⟩
  | 10 => ⟨S_, .f32⟩
  | 11 => ⟨S32x8x2x257, .i1⟩
  | 12 => ⟨S32x8x2x257, .f32⟩
  | 13 => ⟨S32x8x2x257, .f32⟩
  | 14 => ⟨S8x257, .i32⟩
  | 15 => ⟨S8x257, .i32⟩
  | 16 => ⟨S8x257, .i1⟩
  | 17 => ⟨S1x8x1x257, .i1⟩
  | 18 => ⟨S_, .f32⟩
  | 19 => ⟨S_, .f32⟩
  | 20 => ⟨S32x8x2x257, .i1⟩
  | 21 => ⟨S32x8x2x257, .f32⟩
  | 22 => ⟨S32x8x2x257, .f32⟩
  | 23 => ⟨S32x8x2x16, .f32⟩
  | 24 => ⟨S32x8x2x16, .i32⟩
  | 25 => ⟨S32x8x2x16x1, .i32⟩
  | 26 => ⟨S257, .i32⟩
  | 27 => ⟨S1x1x1x1x257, .i32⟩
  | 28 => ⟨S32x8x2x16x257, .i32⟩
  | 29 => ⟨S32x8x2x16x257, .i32⟩
  | 30 => ⟨S32x8x2x16x257, .i1⟩
  | 31 => ⟨S_, .i1⟩
  | 32 => ⟨S32x8x2x257, .i1⟩
  | 33 => ⟨S32x8x2x257, .i32⟩
  | 34 => ⟨S8, .i32⟩
  | 35 => ⟨S8x1, .i32⟩
  | 36 => ⟨S_, .i32⟩
  | 37 => ⟨S8x1, .i32⟩
  | 38 => ⟨S8x1, .i32⟩
  | 39 => ⟨S2, .i32⟩
  | 40 => ⟨S1x2, .i32⟩
  | 41 => ⟨S8x2, .i32⟩
  | 42 => ⟨S8x2, .i32⟩
  | 43 => ⟨S8x2, .i32⟩
  | 44 => ⟨S_, .i32⟩
  | 45 => ⟨S8x2, .i32⟩
  | 46 => ⟨S8x2, .i32⟩
  | 47 => ⟨S32x8x2x256, .i32⟩
  | 48 => ⟨S32x8x2x128x2, .i32⟩
  | 49 => ⟨S32x2x128x8x2, .i32⟩
  | 50 => ⟨S1x1x1x8x2, .i32⟩
  | 51 => ⟨S32x2x128x8x2, .i32⟩
  | 52 => ⟨S32x2x128x8x2, .i32⟩
  | 53 => ⟨S_, .i32⟩
  | 54 => ⟨S32x2x128, .i32⟩
  | 55 => ⟨S32x8x2x1, .i32⟩
  | 56 => ⟨S32x8x2, .i32⟩
  | 57 => ⟨S32x2x8, .i32⟩
  | 58 => ⟨S_, .i32⟩
  | 59 => ⟨S8, .i32⟩
  | 60 => ⟨S8, .i32⟩
  | 61 => ⟨S1x1x8, .i32⟩
  | 62 => ⟨S32x2x8, .i32⟩
  | 63 => ⟨S32x2x8, .i32⟩
  | 64 => ⟨S_, .i32⟩
  | 65 => ⟨S32x2, .i32⟩
  | 66 => ⟨S32x2x1, .i32⟩
  | 67 => ⟨S_, .i32⟩
  | 68 => ⟨S_, .i32⟩
  | 69 => ⟨S32x2x128, .i32⟩
  | 70 => ⟨S32x2x1x128, .i32⟩
  | 71 => ⟨S32x2x1x128, .i32⟩
  | 72 => ⟨S32x2x2x128, .i32⟩
  | _ => ⟨S1x256x512, .bf16⟩

abbrev hbmTy (i : Nat) : BufTy := match i / 128 with
  | 0 => hbmTy0_0 i
  | 1 => hbmTy0_1 i
  | _ => ⟨S1x256x512, .bf16⟩

abbrev bufTy : (tb : Table) → Fin (tcTables nBuf tb) → BufTy
  | .hbm, ⟨i, _⟩ => hbmTy i
  | _, _ => ⟨S1x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_13 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_c : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_0 : Ref sig .tc := ⟨.hbm, 116, rfl⟩
abbrev main_call2_v12 : Ref sig .tc := ⟨.hbm, 117, rfl⟩
abbrev main_call2_v13 : Ref sig .tc := ⟨.hbm, 118, rfl⟩
abbrev main_v77 : Ref sig .tc := ⟨.hbm, 119, rfl⟩
abbrev main_v78 : Ref sig .tc := ⟨.hbm, 120, rfl⟩
abbrev main_c_14 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_15 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_16 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_17 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v98 : Ref sig .tc := ⟨.hbm, 150, rfl⟩
abbrev main_values : Ref sig .tc := ⟨.hbm, 151, rfl⟩
abbrev main_indices : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_c_18 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_19 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_c_20 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_c_21 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_c_22 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_c_23 : Ref sig .tc := ⟨.hbm, 192, rfl⟩
abbrev main_v133 : Ref sig .tc := ⟨.hbm, 193, rfl⟩
abbrev main_v134 : Ref sig .tc := ⟨.hbm, 194, rfl⟩
abbrev main_c_24 : Ref sig .tc := ⟨.hbm, 195, rfl⟩
abbrev main_call5_v0 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩

abbrev nD : Nat := 1
abbrev τ : Topo := Topo.v7x

variable {F : FTy → Type} [FloatOps F]
-- ==== Mlp.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S16384x512 : Shape := ⟨2, ![16384, 512]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S16384x1024, .f32⟩
  | .hbm, ⟨9, _⟩ => ⟨S16384x512, .bf16⟩
  | .hbm, ⟨10, _⟩ => ⟨S16384x512, .bf16⟩
  | .hbm, ⟨11, _⟩ => ⟨S1024x1024, .f32⟩
  | .hbm, ⟨12, _⟩ => ⟨S1024x1024, .bf16⟩
  | .hbm, ⟨13, _⟩ => ⟨S1024x4096, .f32⟩
  | .hbm, ⟨14, _⟩ => ⟨S1024x4096, .bf16⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpReferenceIdeal.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4096x1024 : Shape := ⟨2, ![4096, 1024]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S4x4096x512, .f32⟩
  | .hbm, ⟨9, _⟩ => ⟨S4x4096x512, .f32⟩
  | .hbm, ⟨10, _⟩ => ⟨S4x4096x1024, .f32⟩
  | .hbm, ⟨11, _⟩ => ⟨S1024x1024, .f32⟩
  | .hbm, ⟨12, _⟩ => ⟨S4x4096x1024, .f32⟩
  | .hbm, ⟨13, _⟩ => ⟨S4x4096x1024, .f32⟩
  | .hbm, ⟨14, _⟩ => ⟨S1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S1024x4096, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proj.lean ====
abbrev S4x4096x1024 : Shape := ⟨3, ![4, 4096, 1024]⟩
abbrev S1x1024 : Shape := ⟨2, ![1, 1024]⟩
abbrev S1x1024x1816 : Shape := ⟨3, ![1, 1024, 1816]⟩
abbrev S1024x1816 : Shape := ⟨2, ![1024, 1816]⟩
abbrev S1816x1024 : Shape := ⟨2, ![1816, 1024]⟩
abbrev S512x1024 : Shape := ⟨2, ![512, 1024]⟩
abbrev S768x1024 : Shape := ⟨2, ![768, 1024]⟩
abbrev S24x1024 : Shape := ⟨2, ![24, 1024]⟩
abbrev S_ : Shape := ⟨0, ![]⟩
abbrev S128x1024 : Shape := ⟨2, ![128, 1024]⟩
abbrev S1152x1024 : Shape := ⟨2, ![1152, 1024]⟩
abbrev S4x4096x512 : Shape := ⟨3, ![4, 4096, 512]⟩
abbrev S4x4096x128 : Shape := ⟨3, ![4, 4096, 128]⟩
abbrev S4x256x4096 : Shape := ⟨3, ![4, 256, 4096]⟩
abbrev S2x4x256x4096 : Shape := ⟨4, ![2, 4, 256, 4096]⟩
abbrev S128x256x128 : Shape := ⟨3, ![128, 256, 128]⟩
abbrev S1x512x1024 : Shape := ⟨3, ![1, 512, 1024]⟩
abbrev S1x512x512 : Shape := ⟨3, ![1, 512, 512]⟩
abbrev S1x512x128 : Shape := ⟨3, ![1, 512, 128]⟩
abbrev S1x256x512 : Shape := ⟨3, ![1, 256, 512]⟩
abbrev S2x1x256x512 : Shape := ⟨4, ![2, 1, 256, 512]⟩
abbrev S4x256x128 : Shape := ⟨3, ![4, 256, 128]⟩
abbrev S512 : Shape := ⟨1, ![512]⟩
abbrev S512x1 : Shape := ⟨2, ![512, 1]⟩
abbrev S512x1152 : Shape := ⟨2, ![512, 1152]⟩
abbrev S512x512 : Shape := ⟨2, ![512, 512]⟩
abbrev S512x128 : Shape := ⟨2, ![512, 128]⟩
abbrev S768x512 : Shape := ⟨2, ![768, 512]⟩
abbrev S256x512 : Shape := ⟨2, ![256, 512]⟩
abbrev S1x1x256x512 : Shape := ⟨4, ![1, 1, 256, 512]⟩
abbrev S256x128 : Shape := ⟨2, ![256, 128]⟩
abbrev S1x256x128 : Shape := ⟨3, ![1, 256, 128]⟩

abbrev nBuf : Space → Nat
  | .hbm => 23
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x1816, .f32⟩
  | .hbm, ⟨3, _⟩ => ⟨S1024x1816, .f32⟩
  | .hbm, ⟨4, _⟩ => ⟨S1816x1024, .f32⟩
  | .hbm, ⟨5, _⟩ => ⟨S512x1024, .f32⟩
  | .hbm, ⟨6, _⟩ => ⟨S768x1024, .f32⟩
  | .hbm, ⟨7, _⟩ => ⟨S24x1024, .f32⟩
  | .hbm, ⟨8, _⟩ => ⟨S512x1024, .f32⟩
  | .hbm, ⟨9, _⟩ => ⟨S_, .i32⟩
  | .hbm, ⟨10, _⟩ => ⟨S_, .f32⟩
  | .hbm, ⟨11, _⟩ => ⟨S128x1024, .f32⟩
  | .hbm, ⟨12, _⟩ => ⟨S1152x1024, .f32⟩
  | .hbm, ⟨13, _⟩ => ⟨S1152x1024, .bf16⟩
  | .hbm, ⟨14, _⟩ => ⟨S768x1024, .bf16⟩
  | .hbm, ⟨15, _⟩ => ⟨S4x4096x512, .bf16⟩
  | .hbm, ⟨16, _⟩ => ⟨S4x4096x128, .f32⟩
  | .hbm, ⟨17, _⟩ => ⟨S4x4096x512, .f32⟩
  | .hbm, ⟨18, _⟩ => ⟨S4x256x4096, .f32⟩
  | .hbm, ⟨19, _⟩ => ⟨S4x256x4096, .f32⟩
  | .hbm, ⟨20, _⟩ => ⟨S4x256x4096, .f32⟩
  | .hbm, ⟨21, _⟩ => ⟨S2x4x256x4096, .bf16⟩
  | .hbm, ⟨22, _⟩ => ⟨S128x256x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1152x1024, .bf16⟩
  | .local _ .vmem, ⟨4, _⟩ => ⟨S768x1024, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x128, .f32⟩
  | .local _ .vmem, ⟨8, _⟩ => ⟨S1x512x128, .f32⟩
  | .local _ .vmem, ⟨9, _⟩ => ⟨S1x512x512, .f32⟩
  | .local _ .vmem, ⟨10, _⟩ => ⟨S1x512x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S2x1x256x512, .bf16⟩
  | .local _ .vmem, ⟨18, _⟩ => ⟨S2x1x256x512, .bf16⟩
  | .local _ .vmem, ⟨19, _⟩ => ⟨S4x256x128, .f32⟩
  | .local _ .vmem, ⟨20, _⟩ => ⟨S4x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev main_v10_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1152x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjReferenceIdeal.lean ====
abbrev S4x4096x1024 : Shape := ⟨3, ![4, 4096, 1024]⟩
abbrev S1x1024 : Shape := ⟨2, ![1, 1024]⟩
abbrev S1x1024x1816 : Shape := ⟨3, ![1, 1024, 1816]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x1816 : Shape := ⟨2, ![1024, 1816]⟩
abbrev S4x4096x1816 : Shape := ⟨3, ![4, 4096, 1816]⟩
abbrev S4x4096x512 : Shape := ⟨3, ![4, 4096, 512]⟩
abbrev S4x4096x256 : Shape := ⟨3, ![4, 4096, 256]⟩
abbrev S4x4096x24 : Shape := ⟨3, ![4, 4096, 24]⟩
abbrev S4x4096x128 : Shape := ⟨3, ![4, 4096, 128]⟩
abbrev S4x256x4096 : Shape := ⟨3, ![4, 256, 4096]⟩
abbrev S1x4x256x4096 : Shape := ⟨4, ![1, 4, 256, 4096]⟩
abbrev S2x4x256x4096 : Shape := ⟨4, ![2, 4, 256, 4096]⟩
abbrev S128x128x256 : Shape := ⟨3, ![128, 128, 256]⟩
abbrev S128x256x128 : Shape := ⟨3, ![128, 256, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x1816, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x1816, .f32⟩
  | .hbm, ⟨21, _⟩ => ⟨S4x4096x1816, .f32⟩
  | .hbm, ⟨22, _⟩ => ⟨S4x4096x512, .f32⟩
  | .hbm, ⟨23, _⟩ => ⟨S4x4096x256, .f32⟩
  | .hbm, ⟨24, _⟩ => ⟨S4x4096x256, .f32⟩
  | .hbm, ⟨25, _⟩ => ⟨S4x4096x256, .f32⟩
  | .hbm, ⟨26, _⟩ => ⟨S4x4096x24, .f32⟩
  | .hbm, ⟨27, _⟩ => ⟨S4x4096x512, .f32⟩
  | .hbm, ⟨28, _⟩ => ⟨S_, .f32⟩
  | .hbm, ⟨29, _⟩ => ⟨S4x4096x512, .f32⟩
  | .hbm, ⟨30, _⟩ => ⟨S4x4096x512, .f32⟩
  | .hbm, ⟨31, _⟩ => ⟨S4x4096x512, .bf16⟩
  | .hbm, ⟨32, _⟩ => ⟨S_, .i32⟩
  | .hbm, ⟨33, _⟩ => ⟨S_, .f32⟩
  | .hbm, ⟨34, _⟩ => ⟨S4x4096x128, .f32⟩
  | .hbm, ⟨35, _⟩ => ⟨S4x4096x128, .f32⟩
  | .hbm, ⟨36, _⟩ => ⟨S4x4096x128, .f32⟩
  | .hbm, ⟨37, _⟩ => ⟨S_, .f32⟩
  | .hbm, ⟨38, _⟩ => ⟨S4x4096x128, .f32⟩
  | .hbm, ⟨39, _⟩ => ⟨S4x4096x128, .f32⟩
  | .hbm, ⟨40, _⟩ => ⟨S_, .f32⟩
  | .hbm, ⟨41, _⟩ => ⟨S4x4096x128, .f32⟩
  | .hbm, ⟨42, _⟩ => ⟨S4x4096x128, .f32⟩
  | .hbm, ⟨43, _⟩ => ⟨S4x256x4096, .f32⟩
  | .hbm, ⟨44, _⟩ => ⟨S4x256x4096, .f32⟩
  | .hbm, ⟨45, _⟩ => ⟨S4x256x4096, .f32⟩
  | .hbm, ⟨46, _⟩ => ⟨S1x4x256x4096, .f32⟩
  | .hbm, ⟨47, _⟩ => ⟨S1x4x256x4096, .f32⟩
  | .hbm, ⟨48, _⟩ => ⟨S2x4x256x4096, .f32⟩
  | .hbm, ⟨49, _⟩ => ⟨S2x4x256x4096, .bf16⟩
  | .hbm, ⟨50, _⟩ => ⟨S128x128x256, .f32⟩
  | .hbm, ⟨51, _⟩ => ⟨S128x256x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.ProjValue.lean ====
module
public import proofs.«01_k».proof.Proof.Gen.ProjIdeal.Value
public import proofs.«01_k».proof.Proof.Gen.ProjReferenceIdeal.Read
public import Idealize.ShloMosaic.Lib.Pipeline.ValueKit
public import Idealize.ShloMosaic.Lib.Pointwise.Tactic
public import Idealize.ShloMosaic.Lib.StableHlo.ReadAt
@[expose] public section
set_option maxRecDepth 16384
noncomputable section

open Idealize.ShloMosaic Idealize.ShloMosaic.TcCoe Idealize.SL.Sem

/-! ## One row: the norm and one column of the projection -/

namespace Cert.ProjRow

/-- A row divided by its root mean square, times the gain. -/
def norm (v g : Fin 1024 → EReal) (d : Fin 1024) : EReal :=
  v d * Ideal.rsqrt (Ideal.div (∑ k : Fin 1024, v k * v k) (Ideal.ofBits .f32 0x44800000#32) + Ideal.ofBits .f32 0x358637BD#32) * g d

/-- The normed row times one column. -/
def dot (v g : Fin 1024 → EReal) (w : Fin 1024 → EReal) : EReal := ∑ k : Fin 1024, norm v g k * w k

/-- The logistic function as both sides spell it. -/
def gate (s : EReal) : EReal := Ideal.div 1 (1 + Ideal.exp (-s))

end Cert.ProjRow

/-! ## The reference's rows -/

namespace Cert.ProjReferenceIdeal.Val
open Cert.ProjReferenceIdeal Cert.ProjReferenceIdeal.Gen Cert.ProjReferenceIdeal.Read

variable (x0 : FVec Ideal S4x4096x1024 .f32) (x1 : FVec Ideal S1x1024 .f32) (x2 : FVec Ideal S1x1024x1816 .f32) (b : Fin 4) (t : Fin 4096)

theorem norm_at (d : Fin 1024) : val_main_v13 (F := Ideal) x0 x1 (ix3 b t d)
     = ProjRow.norm (fun d => x0 (ix3 b t d)) (fun d => x1 (ix2 0 d)) d := by
  unfold val_main_v13 val_main_v10 val_main_v9 val_main_v8 val_main_v7 val_main_v5 val_main_v3 val_main_v2 val_main_v1
  pointwise [val_main_v12, val_main_v11, val_main_v0, val_main_v6, val_main_v4, val_main_cst, val_main_cst_0, val_main_cst_1]
  rfl

theorem dot_at (n : Fin 1816) : val_main_v15 (F := Ideal) x0 x1 x2 (ix3 b t n)
     = ProjRow.dot (fun d => x0 (ix3 b t d)) (fun d => x1 (ix2 0 d)) (fun k => x2 (ix3 0 k n)) := by
  unfold val_main_v15 ProjRow.dot
  simp only [← norm_at]
  generalize val_main_v13 (F := Ideal) x0 x1 = h
  pointwise [val_main_v14]

theorem q_at (n : Fin 512) : val_main_v24 (F := Ideal) x0 x1 x2 (ix3 b t n)
     = val_main_v15 (F := Ideal) x0 x1 x2 (ix3 b t ⟨n.val, by omega⟩) * Ideal.ofBits .f32 0x3E000000#32 := by
  unfold val_main_v24 val_main_v23 val_main_v16
  generalize val_main_v15 (F := Ideal) x0 x1 x2 = h
  pointwise [val_main_v22, val_main_cst_2]

theorem zero_word : (FloatOps.sitofp .f32 (0#32) : Ideal .f32) = (0 : EReal) := by
  show ((((0#32 : BitVec 32).toInt : ℝ)) : EReal) = 0
  simp

theorem gate_at (n : Fin 128) : val_main_v31 (F := Ideal) x0 x1 x2 (ix3 b t n)
     = ProjRow.gate (if h : n.val < 24 then val_main_v15 (F := Ideal) x0 x1 x2 (ix3 b t ⟨1280 + n.val, by omega⟩) else 0) := by
  unfold val_main_v31 val_main_v29 val_main_v27 val_main_v26 val_main_v25 val_main_v20
  generalize val_main_v15 (F := Ideal) x0 x1 x2 = h
  pointwise [val_main_v30, val_main_v28, val_main_cst_3, val_main_cst_4, val_main_call0_v0, val_main_c]
  unfold ProjRow.gate
  rw [zero_word]

theorem u_at (n : Fin 512) : val_main_v21 (F := Ideal) x0 x1 x2 (ix3 b t n)
     = val_main_v15 (F := Ideal) x0 x1 x2 (ix3 b t ⟨1304 + n.val, by omega⟩) := by
  unfold val_main_v21
  generalize val_main_v15 (F := Ideal) x0 x1 x2 = h
  pointwise []

theorem kc_at (n : Fin 256) : val_main_v32 (F := Ideal) x0 x1 x2 (ix3 b n t)
     = val_main_v15 (F := Ideal) x0 x1 x2 (ix3 b t ⟨512 + n.val, by omega⟩) := by
  unfold val_main_v32 val_main_v17
  generalize val_main_v15 (F := Ideal) x0 x1 x2 = h
  pointwise []

theorem ks_at (n : Fin 256) : val_main_v33 (F := Ideal) x0 x1 x2 (ix3 b n t)
     = val_main_v15 (F := Ideal) x0 x1 x2 (ix3 b t ⟨768 + n.val, by omega⟩) := by
  unfold val_main_v33 val_main_v18
  generalize val_main_v15 (F := Ideal) x0 x1 x2 = h
  pointwise []

theorem kw_at (n : Fin 256) : val_main_v34 (F := Ideal) x0 x1 x2 (ix3 b n t)
     = val_main_v15 (F := Ideal) x0 x1 x2 (ix3 b t ⟨1024 + n.val, by omega⟩) := by
  unfold val_main_v34 val_main_v19
  generalize val_main_v15 (F := Ideal) x0 x1 x2 = h
  pointwise []

theorem kv_at (a : Fin 2) (n : Fin 256) : val_main_v38 (F := Ideal) x0 x1 x2 (ix4 a b n t)
     = val_main_v15 (F := Ideal) x0 x1 x2 (ix3 b t ⟨768 + 256 * a.val + n.val, by omega⟩) := by
  unfold val_main_v38 val_main_v37 val_main_v36 val_main_v35 val_main_v34 val_main_v33 val_main_v19 val_main_v18
  generalize val_main_v15 (F := Ideal) x0 x1 x2 = h
  match a with
  | ⟨0, _⟩ => pointwise []
  | ⟨1, _⟩ => pointwise []

theorem pages_at (p : Fin 128) (n : Fin 256) (l : Fin 128) : val_main_v40 (F := Ideal) x0 x1 x2 (ix3 p n l)
     = val_main_v15 (F := Ideal) x0 x1 x2 (ix3 ⟨p.val / 32, by omega⟩ ⟨p.val % 32 * 128 + l.val, by omega⟩ ⟨512 + n.val, by omega⟩) := by
  unfold val_main_v40 val_main_v39 val_main_v17
  generalize val_main_v15 (F := Ideal) x0 x1 x2 = h
  pointwise []

end Cert.ProjReferenceIdeal.Val

/-! ## The kernel's blocks -/

namespace Cert.ProjIdeal.Val
open Cert.ProjIdeal Cert.ProjIdeal.Gen
open Idealize.ShloMosaic.Pipeline (Dat)

theorem tok_at (v : Vec Ideal S1x512x1024 .f32) (g : Vec Ideal S1x1024 .f32) (w : Vec Ideal S1152x1024 .bf16) (r : Fin 512) (n : Fin 1152) :
    k0_pay6 v g w (ix2 r n) = ProjRow.dot (fun d => v (ix3 0 r d)) (fun d => g (ix2 0 d)) (fun k => w (ix2 n k)) := by
  pointwise [k0_pay6, k0_pay5]
  rfl

theorem kvt_at (v : Vec Ideal S1x512x1024 .f32) (g : Vec Ideal S1x1024 .f32) (w : Vec Ideal S768x1024 .bf16) (r : Fin 512) (n : Fin 768) :
    k0_pay11 (k0_pay5 v g) w (ix2 n r) = ProjRow.dot (fun d => v (ix3 0 r d)) (fun d => g (ix2 0 d)) (fun k => w (ix2 n k)) := by
  unfold ProjRow.dot ProjRow.norm
  simp only [mul_comm _ (w _)]
  pointwise [k0_pay11, k0_pay5]

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S1x512x1024 .f32) : View.ld x r0_0 = x := View.ld_unit_zero hz3 _ x
theorem ld1 (x : Vec Ideal S1x1024 .f32) : View.ld x r0_1 = x := View.ld_unit_zero hz2 _ x
theorem ld2 (x : Vec Ideal S1152x1024 .bf16) : View.ld x r0_2 = x := View.ld_unit_zero hz2 _ x
theorem ld3 (x : Vec Ideal S768x1024 .bf16) : View.ld x r0_5 = x := View.ld_unit_zero hz2 _ x

variable (x0 : Vec Ideal S1x512x1024 .f32) (x1 : Vec Ideal S1x1024 .f32) (x2 : Vec Ideal S1152x1024 .bf16) (x3 : Vec Ideal S768x1024 .bf16) (r : Fin 512)

/-- The normed row of block row `r` times row `n` of the token weights. -/
abbrev T (n : Fin 1152) : EReal := ProjRow.dot (fun d => x0 (ix3 0 r d)) (fun d => x1 (ix2 0 d)) (fun k => x2 (ix2 n k))
/-- The normed row of block row `r` times row `n` of the key and value weights. -/
abbrev KV (n : Fin 768) : EReal := ProjRow.dot (fun d => x0 (ix3 0 r d)) (fun d => x1 (ix2 0 d)) (fun k => x3 (ix2 n k))

theorem out4 (n : Fin 512) : out0_4 x0 x1 x2 x3 (ix3 0 r n) = T x0 x1 x2 r ⟨n.val, by omega⟩ * Ideal.ofBits .f32 0x3E000000#32 := by
  unfold out0_4 T
  rw [View.canon_unit_zero hz3, ld0, ld1, ld2, ← tok_at]
  unfold k0_pay7
  generalize k0_pay6 x0 x1 x2 = h
  pointwise []

theorem out5 (n : Fin 128) : out0_5 x0 x1 x2 x3 (ix3 0 r n) = ProjRow.gate (T x0 x1 x2 r ⟨1024 + n.val, by omega⟩) := by
  unfold out0_5 T
  rw [View.canon_unit_zero hz3, ld0, ld1, ld2, ← tok_at]
  unfold k0_pay10 k0_pay9
  generalize k0_pay6 x0 x1 x2 = h
  pointwise []
  unfold ProjRow.gate
  rw [zero_sub]

theorem out6 (n : Fin 512) : out0_6 x0 x1 x2 x3 (ix3 0 r n) = T x0 x1 x2 r ⟨512 + n.val, by omega⟩ := by
  unfold out0_6 T
  rw [View.canon_unit_zero hz3, ld0, ld1, ld2, ← tok_at]
  unfold k0_pay8
  generalize k0_pay6 x0 x1 x2 = h
  pointwise []

theorem out7 (n : Fin 256) : out0_7 x0 x1 x2 x3 (ix3 0 n r) = KV x0 x1 x3 r ⟨n.val, by omega⟩ := by
  unfold out0_7 k0_pay17 KV
  rw [View.canon_unit_zero hz3, ld0, ld1, ld3, ← kvt_at]
  unfold k0_pay12
  generalize k0_pay11 (k0_pay5 x0 x1) x3 = h
  pointwise []

theorem out8 (n : Fin 256) : out0_8 x0 x1 x2 x3 (ix3 0 n r) = KV x0 x1 x3 r ⟨256 + n.val, by omega⟩ := by
  unfold out0_8 k0_pay17 KV
  rw [View.canon_unit_zero hz3, ld0, ld1, ld3, ← kvt_at]
  unfold k0_pay13
  generalize k0_pay11 (k0_pay5 x0 x1) x3 = h
  pointwise []

theorem out9 (n : Fin 256) : out0_9 x0 x1 x2 x3 (ix3 0 n r) = KV x0 x1 x3 r ⟨512 + n.val, by omega⟩ := by
  unfold out0_9 k0_pay17 KV
  rw [View.canon_unit_zero hz3, ld0, ld1, ld3, ← kvt_at]
  unfold k0_pay14
  generalize k0_pay11 (k0_pay5 x0 x1) x3 = h
  pointwise []

theorem out10 (a : Fin 2) (n : Fin 256) : out0_10 x0 x1 x2 x3 (ix4 a 0 n r) = KV x0 x1 x3 r ⟨256 + 256 * a.val + n.val, by omega⟩ := by
  unfold out0_10 k0_pay17 KV
  rw [ld0, ld1, ld3, Value.canon10_eq, ← kvt_at]
  exact congrArg (k0_pay11 (k0_pay5 x0 x1) x3) (funext fun i => Fin.ext (by match i with
    | ⟨0, _⟩ => show a.val * 256 + n.val + 256 = 256 + 256 * a.val + n.val; omega
    | ⟨1, _⟩ => rfl))

theorem out11 (p : Fin 4) (n : Fin 256) (l : Fin 128) : out0_11 x0 x1 x2 x3 (ix3 p n l)
    = KV x0 x1 x3 ⟨p.val * 128 + l.val, by omega⟩ ⟨n.val, by omega⟩ := by
  unfold out0_11 k0_pay18 k0_pay17 KV
  rw [ld0, ld1, ld3, Value.canon11_eq, ← kvt_at]
  exact congrArg (k0_pay11 (k0_pay5 x0 x1) x3) (funext fun i => Fin.ext (by match i with
    | ⟨0, _⟩ => rfl
    | ⟨1, _⟩ => rfl))

variable (m : (ℓ : Loc nD τ sig) → Buf (Elt Ideal) ℓ)

theorem idx : ∀ t : Fin cfg0.N, win0_0.index t = ![t.val / 8, t.val % 8, 0] ∧ win0_1.index t = ![0, 0] ∧ win0_2.index t = ![0, 0] ∧ win0_3.index t = ![0, 0]
    ∧ win0_4.index t = ![t.val / 8, t.val % 8, 0] ∧ win0_5.index t = ![t.val / 8, t.val % 8, 0] ∧ win0_6.index t = ![t.val / 8, t.val % 8, 0]
    ∧ win0_7.index t = ![t.val / 8, 0, t.val % 8] ∧ win0_8.index t = ![t.val / 8, 0, t.val % 8] ∧ win0_9.index t = ![t.val / 8, 0, t.val % 8]
    ∧ win0_10.index t = ![0, t.val / 8, 0, t.val % 8] ∧ win0_11.index t = ![t.val, 0, 0] :=
  (by decide +kernel : ∀ t : Fin grid0.N, _)

/-- The column of the input weights that row `n` of the token weights holds. -/
def col (w : FVec Ideal S1x1024x1816 .f32) (n : Fin 1152) (k : Fin 1024) : EReal :=
  if h : n.val < 512 then w (ix3 0 k ⟨n.val, by omega⟩)
  else if h : n.val < 1024 then w (ix3 0 k ⟨n.val + 792, by omega⟩)
  else if h : n.val < 1048 then w (ix3 0 k ⟨n.val + 256, by omega⟩) else 0

theorem wtok_entry (c : Dev nD) (n : Fin 1152) (k : Fin 1024) :
    V m c main_v8 (ix2 n k) = col (m ((c : Thread nD τ).loc main_arg2)) n k := by
  unfold V
  simp only [hostOps0, hostOps0_1, hostOps0_2, List.flatten_cons, List.flatten_nil, List.append_nil, List.cons_append, List.nil_append]
  after_reads_at
  after_reads_at
  unfold col
  have hn := n.isLt
  by_cases h1 : n.val < 512
  · simp only [h1, dif_pos]
  · by_cases h2 : n.val < 1024
    · have h2' : n.val - 512 < 512 := by omega
      simp only [h1, h2, h2', dif_pos, dif_neg, not_false_eq_true]
      exact congrArg (fun j => m ((c : Thread nD τ).loc main_arg2) (ix3 0 k j)) (Fin.ext (by show 1304 + (n.val - 512) = n.val + 792; omega))
    · have h2' : ¬ n.val - 512 < 512 := by omega
      by_cases h3 : n.val < 1048
      · have h3' : n.val - 512 - 512 < 24 := by omega
        simp only [h1, h2, h2', h3, h3', dif_pos, dif_neg, not_false_eq_true]
        exact congrArg (fun j => m ((c : Thread nD τ).loc main_arg2) (ix3 0 k j)) (Fin.ext (by show 1280 + (n.val - 512 - 512) = n.val + 256; omega))
      · have h3' : ¬ n.val - 512 - 512 < 24 := by omega
        simp only [h1, h2, h2', h3, h3', dif_neg, not_false_eq_true]
        exact Cert.ProjReferenceIdeal.Val.zero_word

theorem wkv_entry (c : Dev nD) (n : Fin 768) (k : Fin 1024) :
    V m c main_v9 (ix2 n k) = m ((c : Thread nD τ).loc main_arg2) (ix3 0 k ⟨512 + n.val, by omega⟩) := by
  unfold V
  simp only [hostOps0, hostOps0_1, hostOps0_2, List.flatten_cons, List.flatten_nil, List.append_nil, List.cons_append, List.nil_append]
  after_reads_at

/-- The arguments, by name. -/
abbrev X (c : Dev nD) : FVec Ideal S4x4096x1024 .f32 := m ((c : Thread nD τ).loc main_arg0)
abbrev G (c : Dev nD) : FVec Ideal S1x1024 .f32 := m ((c : Thread nD τ).loc main_arg1)
abbrev W (c : Dev nD) : FVec Ideal S1x1024x1816 .f32 := m ((c : Thread nD τ).loc main_arg2)

theorem tb (t : Fin cfg0.N) : t.val / 8 < 4 := by have : t.val < 32 := t.isLt; omega
theorem tr (t : Fin cfg0.N) (r : Fin 512) : t.val % 8 * 512 + r.val < 4096 := by omega

theorem x_at (c : Dev nD) (t : Fin cfg0.N) (r : Fin 512) (d : Fin 1024) :
    iblk m c 0 t (ix3 0 r d) = X m c (ix3 ⟨t.val / 8, tb t⟩ ⟨t.val % 8 * 512 + r.val, tr t r⟩ d) := by
  blk_ext [iblk, V, idx t]
theorem g_at (c : Dev nD) (t : Fin cfg0.N) (d : Fin 1024) : iblk m c 1 t (ix2 0 d) = G m c (ix2 0 d) := by
  blk_ext [iblk, V, idx t]
theorem wtok_at (c : Dev nD) (t : Fin cfg0.N) (n : Fin 1152) (k : Fin 1024) : iblk m c 2 t (ix2 n k) = col (W m c) n k := by
  refine Eq.trans ?_ (wtok_entry m c n k)
  show V m c main_v8 (((cfg0.win 2).blk t).view.emb (ix2 n k)) = _
  refine congrArg _ ?_
  blk_ext [idx t]
theorem wkv_at (c : Dev nD) (t : Fin cfg0.N) (n : Fin 768) (k : Fin 1024) : iblk m c 3 t (ix2 n k) = W m c (ix3 0 k ⟨512 + n.val, by omega⟩) := by
  refine Eq.trans ?_ (wkv_entry m c n k)
  show V m c main_v9 (((cfg0.win 3).blk t).view.emb (ix2 n k)) = _
  refine congrArg _ ?_
  blk_ext [idx t]

theorem T_at (c : Dev nD) (t : Fin cfg0.N) (r : Fin 512) (n : Fin 1152) : T (iblk m c 0 t) (iblk m c 1 t) (iblk m c 2 t) r n
    = ProjRow.dot (fun d => X m c (ix3 ⟨t.val / 8, tb t⟩ ⟨t.val % 8 * 512 + r.val, tr t r⟩ d)) (fun d => G m c (ix2 0 d)) (fun k => col (W m c) n k) := by
  unfold T
  simp only [x_at, g_at, wtok_at]

theorem KV_at (c : Dev nD) (t : Fin cfg0.N) (r : Fin 512) (n : Fin 768) : KV (iblk m c 0 t) (iblk m c 1 t) (iblk m c 3 t) r n
    = Cert.ProjReferenceIdeal.Read.val_main_v15 (F := Ideal) (X m c) (G m c) (W m c) (ix3 ⟨t.val / 8, tb t⟩ ⟨t.val % 8 * 512 + r.val, tr t r⟩ ⟨512 + n.val, by omega⟩) := by
  rw [Cert.ProjReferenceIdeal.Val.dot_at]
  unfold KV
  simp only [x_at, g_at, wkv_at]

theorem T_col (c : Dev nD) (t : Fin cfg0.N) (r : Fin 512) (n : Fin 1152) (j : Fin 1816) (h : ∀ k, col (W m c) n k = W m c (ix3 0 k j)) :
    T (iblk m c 0 t) (iblk m c 1 t) (iblk m c 2 t) r n
      = Cert.ProjReferenceIdeal.Read.val_main_v15 (F := Ideal) (X m c) (G m c) (W m c) (ix3 ⟨t.val / 8, tb t⟩ ⟨t.val % 8 * 512 + r.val, tr t r⟩ j) := by
  rw [Cert.ProjReferenceIdeal.Val.dot_at, T_at]
  simp only [h]

theorem final4 (c : Dev nD) : (dats m 0 c).arrAt 4 (cfgs 0).N = Cert.ProjReferenceIdeal.Read.val_main_v24 (F := Ideal) (X m c) (G m c) (W m c) := by
  refine (dats m 0 c).arrAt_eq_of_covers 4 _ (by decide +kernel) fun t _ y => ?_
  blk_simp
  rw [after0_4]
  obtain ⟨r, n, rfl⟩ : ∃ (r : Fin 512) (n : Fin 512), y = ix3 (0 : Fin 1) r n := ⟨y 1, y 2, by blk_ext []⟩
  refine (out4 ..).trans (Eq.trans ?_ (congrArg _ (show _ = ix3 (⟨t.val / 8, tb t⟩ : Fin 4) (⟨t.val % 8 * 512 + r.val, tr t r⟩ : Fin 4096) n from by blk_ext [idx t])).symm)
  rw [Cert.ProjReferenceIdeal.Val.q_at, T_col m c t r _ ⟨n.val, by omega⟩ (fun k => by simp [col])]

theorem final5 (c : Dev nD) : (dats m 0 c).arrAt 5 (cfgs 0).N = Cert.ProjReferenceIdeal.Read.val_main_v31 (F := Ideal) (X m c) (G m c) (W m c) := by
  refine (dats m 0 c).arrAt_eq_of_covers 5 _ (by decide +kernel) fun t _ y => ?_
  blk_simp
  rw [after0_5]
  obtain ⟨r, n, rfl⟩ : ∃ (r : Fin 512) (n : Fin 128), y = ix3 (0 : Fin 1) r n := ⟨y 1, y 2, by blk_ext []⟩
  refine (out5 ..).trans (Eq.trans ?_ (congrArg _ (show _ = ix3 (⟨t.val / 8, tb t⟩ : Fin 4) (⟨t.val % 8 * 512 + r.val, tr t r⟩ : Fin 4096) n from by blk_ext [idx t])).symm)
  rw [Cert.ProjReferenceIdeal.Val.gate_at]
  congr 1
  by_cases h : n.val < 24
  · rw [dif_pos h, T_col m c t r _ ⟨1280 + n.val, by omega⟩ (fun k => by
      have h1 : ¬ 1024 + n.val < 512 := by omega
      have h2 : ¬ 1024 + n.val < 1024 := by omega
      have h3 : 1024 + n.val < 1048 := by omega
      simp only [col, h1, h2, h3, dif_pos, dif_neg, not_false_eq_true]
      exact congrArg (fun j => W m c (ix3 0 k j)) (Fin.ext (by show 1024 + n.val + 256 = 1280 + n.val; omega)))]
  · rw [dif_neg h, T_at]
    have h1 : ¬ 1024 + n.val < 512 := by omega
    have h2 : ¬ 1024 + n.val < 1024 := by omega
    have h3 : ¬ 1024 + n.val < 1048 := by omega
    unfold ProjRow.dot
    refine Finset.sum_eq_zero fun k _ => ?_
    simp only [col, h1, h2, h3, dif_neg, not_false_eq_true]
    exact mul_zero _

theorem final6 (c : Dev nD) : (dats m 0 c).arrAt 6 (cfgs 0).N = Cert.ProjReferenceIdeal.Read.val_main_v21 (F := Ideal) (X m c) (G m c) (W m c) := by
  refine (dats m 0 c).arrAt_eq_of_covers 6 _ (by decide +kernel) fun t _ y => ?_
  blk_simp
  rw [after0_6]
  obtain ⟨r, n, rfl⟩ : ∃ (r : Fin 512) (n : Fin 512), y = ix3 (0 : Fin 1) r n := ⟨y 1, y 2, by blk_ext []⟩
  refine (out6 ..).trans (Eq.trans ?_ (congrArg _ (show _ = ix3 (⟨t.val / 8, tb t⟩ : Fin 4) (⟨t.val % 8 * 512 + r.val, tr t r⟩ : Fin 4096) n from by blk_ext [idx t])).symm)
  rw [Cert.ProjReferenceIdeal.Val.u_at]
  refine T_col m c t r _ ⟨1304 + n.val, by omega⟩ (fun k => ?_)
  have h1 : ¬ 512 + n.val < 512 := by omega
  have h2 : 512 + n.val < 1024 := by omega
  simp only [col, h1, h2, dif_pos, dif_neg, not_false_eq_true]
  exact congrArg (fun j => W m c (ix3 0 k j)) (Fin.ext (by show 512 + n.val + 792 = 1304 + n.val; omega))

theorem final7 (c : Dev nD) : (dats m 0 c).arrAt 7 (cfgs 0).N = Cert.ProjReferenceIdeal.Read.val_main_v32 (F := Ideal) (X m c) (G m c) (W m c) := by
  refine (dats m 0 c).arrAt_eq_of_covers 7 _ (by decide +kernel) fun t _ y => ?_
  blk_simp
  rw [after0_7]
  obtain ⟨n, r, rfl⟩ : ∃ (n : Fin 256) (r : Fin 512), y = ix3 (0 : Fin 1) n r := ⟨y 1, y 2, by blk_ext []⟩
  refine (out7 ..).trans (Eq.trans ?_ (congrArg _ (show _ = ix3 (⟨t.val / 8, tb t⟩ : Fin 4) n (⟨t.val % 8 * 512 + r.val, tr t r⟩ : Fin 4096) from by blk_ext [idx t])).symm)
  rw [Cert.ProjReferenceIdeal.Val.kc_at, KV_at]

theorem final8 (c : Dev nD) : (dats m 0 c).arrAt 8 (cfgs 0).N = Cert.ProjReferenceIdeal.Read.val_main_v33 (F := Ideal) (X m c) (G m c) (W m c) := by
  refine (dats m 0 c).arrAt_eq_of_covers 8 _ (by decide +kernel) fun t _ y => ?_
  blk_simp
  rw [after0_8]
  obtain ⟨n, r, rfl⟩ : ∃ (n : Fin 256) (r : Fin 512), y = ix3 (0 : Fin 1) n r := ⟨y 1, y 2, by blk_ext []⟩
  refine (out8 ..).trans (Eq.trans ?_ (congrArg _ (show _ = ix3 (⟨t.val / 8, tb t⟩ : Fin 4) n (⟨t.val % 8 * 512 + r.val, tr t r⟩ : Fin 4096) from by blk_ext [idx t])).symm)
  rw [Cert.ProjReferenceIdeal.Val.ks_at, KV_at]
  exact congrArg (fun j => Cert.ProjReferenceIdeal.Read.val_main_v15 (F := Ideal) (X m c) (G m c) (W m c) (ix3 _ _ j)) (Fin.ext (by show 512 + (256 + n.val) = 768 + n.val; omega))

theorem final9 (c : Dev nD) : (dats m 0 c).arrAt 9 (cfgs 0).N = Cert.ProjReferenceIdeal.Read.val_main_v34 (F := Ideal) (X m c) (G m c) (W m c) := by
  refine (dats m 0 c).arrAt_eq_of_covers 9 _ (by decide +kernel) fun t _ y => ?_
  blk_simp
  rw [after0_9]
  obtain ⟨n, r, rfl⟩ : ∃ (n : Fin 256) (r : Fin 512), y = ix3 (0 : Fin 1) n r := ⟨y 1, y 2, by blk_ext []⟩
  refine (out9 ..).trans (Eq.trans ?_ (congrArg _ (show _ = ix3 (⟨t.val / 8, tb t⟩ : Fin 4) n (⟨t.val % 8 * 512 + r.val, tr t r⟩ : Fin 4096) from by blk_ext [idx t])).symm)
  rw [Cert.ProjReferenceIdeal.Val.kw_at, KV_at]
  exact congrArg (fun j => Cert.ProjReferenceIdeal.Read.val_main_v15 (F := Ideal) (X m c) (G m c) (W m c) (ix3 _ _ j)) (Fin.ext (by show 512 + (512 + n.val) = 1024 + n.val; omega))

theorem final10 (c : Dev nD) : (dats m 0 c).arrAt 10 (cfgs 0).N = Cert.ProjReferenceIdeal.Read.val_main_v38 (F := Ideal) (X m c) (G m c) (W m c) := by
  refine (dats m 0 c).arrAt_eq_of_covers 10 _ (by decide +kernel) fun t _ y => ?_
  blk_simp
  rw [after0_10]
  obtain ⟨a, n, r, rfl⟩ : ∃ (a : Fin 2) (n : Fin 256) (r : Fin 512), y = ix4 a (0 : Fin 1) n r := ⟨y 0, y 2, y 3, by blk_ext []⟩
  refine (out10 ..).trans (Eq.trans ?_ (congrArg _ (show _ = ix4 a (⟨t.val / 8, tb t⟩ : Fin 4) n (⟨t.val % 8 * 512 + r.val, tr t r⟩ : Fin 4096) from by blk_ext [idx t])).symm)
  rw [Cert.ProjReferenceIdeal.Val.kv_at, KV_at]
  exact congrArg (fun j => Cert.ProjReferenceIdeal.Read.val_main_v15 (F := Ideal) (X m c) (G m c) (W m c) (ix3 _ _ j))
    (Fin.ext (by show 512 + (256 + 256 * a.val + n.val) = 768 + 256 * a.val + n.val; omega))

theorem final11 (c : Dev nD) : (dats m 0 c).arrAt 11 (cfgs 0).N = Cert.ProjReferenceIdeal.Read.val_main_v40 (F := Ideal) (X m c) (G m c) (W m c) := by
  refine (dats m 0 c).arrAt_eq_of_covers 11 _ (by decide +kernel) fun t _ y => ?_
  blk_simp
  rw [after0_11]
  have ht : t.val < 32 := t.isLt
  obtain ⟨p, n, l, rfl⟩ : ∃ (p : Fin 4) (n : Fin 256) (l : Fin 128), y = ix3 p n l := ⟨y 0, y 1, y 2, by blk_ext []⟩
  refine (out11 ..).trans (Eq.trans ?_ (congrArg _ (show _ = ix3 (⟨t.val * 4 + p.val, by omega⟩ : Fin 128) n l from by blk_ext [idx t])).symm)
  rw [Cert.ProjReferenceIdeal.Val.pages_at, KV_at]
  exact congrArg₂ (fun i j => Cert.ProjReferenceIdeal.Read.val_main_v15 (F := Ideal) (X m c) (G m c) (W m c) (ix3 i j _))
    (Fin.ext (by show t.val / 8 = (t.val * 4 + p.val) / 32; omega))
    (Fin.ext (by show t.val % 8 * 512 + (p.val * 128 + l.val) = (t.val * 4 + p.val) % 32 * 128 + l.val; omega))

end Cert.ProjIdeal.Val
-- ==== Proof.ProjClaim.lean ====
module

public import proofs.«01_k».proof.Defs
public import proofs.«01_k».proof.Proof.ProjValue
public import proofs.«01_k».proof.Proof.Gen.ProjIdeal.Value
public import proofs.«01_k».proof.Proof.Gen.ProjReferenceIdeal.Run
public import proofs.«01_k».proof.Proof.Gen.ProjReferenceIdeal.Read
public import Idealize.ShloMosaic.Adequacy
public import Idealize.ShloMosaic.Init
public import Idealize.ShloMosaic.Lib.Claim

@[expose] public section

noncomputable section

namespace Cert.Proof

open Idealize.ShloMosaic Idealize.SL.Sem

/-- The value claim of the prompt's norm and combined input projection. -/
theorem proj_value : algebraic_ProjIdeal_ProjReferenceIdeal := by
  pair_intro
  · run_from Cert.ProjIdeal.Value.run_blocks m g
  · run_from Cert.ProjReferenceIdeal.Value.run m' g'
    all_goals obtain ⟨h0, h1, h2⟩ := hagree c
    · rw [Cert.ProjReferenceIdeal.Read.val_main_v24_eq]
      try simp only [h0, h1, h2]
      exact (Cert.ProjIdeal.Val.final4 m c).symm
    · rw [Cert.ProjReferenceIdeal.Read.val_main_v31_eq]
      try simp only [h0, h1, h2]
      exact (Cert.ProjIdeal.Val.final5 m c).symm
    · rw [Cert.ProjReferenceIdeal.Read.val_main_v21_eq]
      try simp only [h0, h1, h2]
      exact (Cert.ProjIdeal.Val.final6 m c).symm
    · rw [Cert.ProjReferenceIdeal.Read.val_main_v32_eq]
      try simp only [h0, h1, h2]
      exact (Cert.ProjIdeal.Val.final7 m c).symm
    · rw [Cert.ProjReferenceIdeal.Read.val_main_v33_eq]
      try simp only [h0, h1, h2]
      exact (Cert.ProjIdeal.Val.final8 m c).symm
    · rw [Cert.ProjReferenceIdeal.Read.val_main_v34_eq]
      try simp only [h0, h1, h2]
      exact (Cert.ProjIdeal.Val.final9 m c).symm
    · rw [Cert.ProjReferenceIdeal.Read.val_main_v38_eq]
      try simp only [h0, h1, h2]
      exact (Cert.ProjIdeal.Val.final10 m c).symm
    · rw [Cert.ProjReferenceIdeal.Read.val_main_v40_eq]
      try simp only [h0, h1, h2]
      exact (Cert.ProjIdeal.Val.final11 m c).symm

end Cert.Proof
-- ==== Proof.MlpValue.lean ====
module
public import proofs.«01_k».proof.Proof.Gen.MlpIdeal.Value
public import proofs.«01_k».proof.Proof.Gen.MlpReferenceIdeal.Read
public import Idealize.ShloMosaic.Lib.Pipeline.ValueKit
public import Idealize.ShloMosaic.Lib.Pointwise.Tactic
@[expose] public section
set_option maxRecDepth 16384
noncomputable section

open Idealize.ShloMosaic Idealize.ShloMosaic.TcCoe Idealize.SL.Sem

/-! ## One row of the block: projection of the two mixers, norm, squared-ReLU layer, final norm -/

namespace Cert.MlpRow

/-- A row after the output projection, added to the residual stream. -/
def proj (x : Fin 1024 → EReal) (o p : Fin 512 → EReal) (w : Fin 1024 → Fin 1024 → EReal) (d : Fin 1024) : EReal :=
  x d + (∑ k : Fin 512, o k * w ⟨k.val, by omega⟩ d + ∑ k : Fin 512, p k * w ⟨512 + k.val, by omega⟩ d)

/-- A row divided by its root mean square, times the gain. -/
def norm (v g : Fin 1024 → EReal) (d : Fin 1024) : EReal :=
  v d * Ideal.rsqrt (Ideal.div (∑ k : Fin 1024, v k * v k) (Ideal.ofBits .f32 0x44800000#32) + Ideal.ofBits .f32 0x358637BD#32) * g d

/-- One hidden unit: the square of the positive part. -/
def act (v : Fin 1024 → EReal) (w : Fin 1024 → EReal) : EReal :=
  max (∑ k : Fin 1024, v k * w k) 0 * max (∑ k : Fin 1024, v k * w k) 0

/-- A row after the squared-ReLU layer, added to the residual stream. -/
def ff (h v : Fin 1024 → EReal) (wu : Fin 1024 → Fin 4096 → EReal) (wd : Fin 4096 → Fin 1024 → EReal) (d : Fin 1024) : EReal :=
  h d + ∑ f : Fin 4096, act v (fun k => wu k f) * wd f d

/-- The whole row. -/
def row (x : Fin 1024 → EReal) (o p : Fin 512 → EReal) (w : Fin 1024 → Fin 1024 → EReal) (gm : Fin 1024 → EReal)
    (wu : Fin 1024 → Fin 4096 → EReal) (wd : Fin 4096 → Fin 1024 → EReal) (gf : Fin 1024 → EReal) : Fin 1024 → EReal :=
  norm (ff (proj x o p w) (norm (proj x o p w) gm) wu wd) gf

/-- A sum over 4096 hidden units in four runs of 1024. -/
theorem sum_runs (f : Fin 4096 → EReal) : ∑ i, f i
    = ((∑ i : Fin 1024, f ⟨i.val, by omega⟩) + (∑ i : Fin 1024, f ⟨1024 + i.val, by omega⟩)
      + (∑ i : Fin 1024, f ⟨2048 + i.val, by omega⟩)) + (∑ i : Fin 1024, f ⟨3072 + i.val, by omega⟩) := by
  have h1 := Fin.sum_univ_add (a := 3072) (b := 1024) f
  have h2 := Fin.sum_univ_add (a := 2048) (b := 1024) (fun i => f (Fin.castAdd 1024 i))
  have h3 := Fin.sum_univ_add (a := 1024) (b := 1024) (fun i => f (Fin.castAdd 1024 (Fin.castAdd 1024 i)))
  exact h1.trans (congrArg (· + _) (h2.trans (congrArg (· + _) h3)))

end Cert.MlpRow

/-! ## The reference's row -/

namespace Cert.MlpReferenceIdeal.Val
open Cert.MlpReferenceIdeal Cert.MlpReferenceIdeal.Gen Cert.MlpReferenceIdeal.Read

variable (x0 : FVec Ideal S4x4096x1024 .f32) (x1 x2 : FVec Ideal S4x4096x512 .bf16) (x3 : FVec Ideal S1x1024x1024 .f32)
  (x4 : FVec Ideal S1x1024 .f32) (x5 : FVec Ideal S1x1024x4096 .f32) (x6 : FVec Ideal S1x4096x1024 .f32) (x7 : FVec Ideal S1024 .f32)
  (b : Fin 4) (t : Fin 4096)

theorem proj_at (d : Fin 1024) : val_main_v5 (F := Ideal) x0 x1 x2 x3 (ix3 b t d)
     = MlpRow.proj (fun d => x0 (ix3 b t d)) (fun k => x1 (ix3 b t k)) (fun k => x2 (ix3 b t k)) (fun k d => x3 (ix3 0 k d)) d := by
  pointwise [val_main_v5, val_main_v4, val_main_v3, val_main_v2, val_main_v1, val_main_v0]
  rfl

theorem norm_at (d : Fin 1024) : val_main_v19 (F := Ideal) x0 x1 x2 x3 x4 (ix3 b t d)
     = MlpRow.norm (fun d => val_main_v5 (F := Ideal) x0 x1 x2 x3 (ix3 b t d)) (fun d => x4 (ix2 0 d)) d := by
  unfold val_main_v19 val_main_v16 val_main_v15 val_main_v14 val_main_v13 val_main_v11 val_main_v9 val_main_v8 val_main_v7
  generalize val_main_v5 (F := Ideal) x0 x1 x2 x3 = h
  pointwise [val_main_v18, val_main_v17, val_main_v6, val_main_v12, val_main_v10, val_main_cst, val_main_cst_0, val_main_cst_1]
  rfl

theorem ff_at (d : Fin 1024) : val_main_v27 (F := Ideal) x0 x1 x2 x3 x4 x5 x6 (ix3 b t d)
     = MlpRow.ff (fun d => val_main_v5 (F := Ideal) x0 x1 x2 x3 (ix3 b t d)) (fun d => val_main_v19 (F := Ideal) x0 x1 x2 x3 x4 (ix3 b t d))
         (fun k f => x5 (ix3 0 k f)) (fun f d => x6 (ix3 0 f d)) d := by
  unfold val_main_v27 val_main_v26 val_main_v24 val_main_v23 val_main_v21
  generalize val_main_v5 (F := Ideal) x0 x1 x2 x3 = h
  generalize val_main_v19 (F := Ideal) x0 x1 x2 x3 x4 = v
  pointwise [val_main_v25, val_main_v22, val_main_v20, val_main_cst_2]
  rfl

theorem last_at (d : Fin 1024) : val_main_v40 (F := Ideal) x0 x1 x2 x3 x4 x5 x6 x7 (ix3 b t d)
     = MlpRow.norm (fun d => val_main_v27 (F := Ideal) x0 x1 x2 x3 x4 x5 x6 (ix3 b t d)) (fun d => x7 (ix1 d)) d := by
  unfold val_main_v40 val_main_v37 val_main_v36 val_main_v35 val_main_v34 val_main_v32 val_main_v30 val_main_v29 val_main_v28
  generalize val_main_v27 (F := Ideal) x0 x1 x2 x3 x4 x5 x6 = h
  pointwise [val_main_v39, val_main_v38, val_main_v33, val_main_v31, val_main_cst_3, val_main_cst_4, val_main_cst_5]
  rfl

/-- The reference's row: the row of `MlpRow`. -/
theorem row_at (d : Fin 1024) : val_main_v40 (F := Ideal) x0 x1 x2 x3 x4 x5 x6 x7 (ix3 b t d)
     = MlpRow.row (fun d => x0 (ix3 b t d)) (fun k => x1 (ix3 b t k)) (fun k => x2 (ix3 b t k)) (fun k d => x3 (ix3 0 k d))
         (fun d => x4 (ix2 0 d)) (fun k f => x5 (ix3 0 k f)) (fun f d => x6 (ix3 0 f d)) (fun d => x7 (ix1 d)) d := by
  rw [last_at]
  simp only [ff_at, norm_at, proj_at]
  rfl
end Cert.MlpReferenceIdeal.Val

/-! ## The kernel's block -/

namespace Cert.MlpIdeal.Val
open Cert.MlpIdeal Cert.MlpIdeal.Gen
open Idealize.ShloMosaic.Pipeline (Dat)

theorem proj_at (v0 v2 : Vec Ideal S512x512 .bf16) (v5 : Vec Ideal S512x1024 .f32) (v7 : Vec Ideal S1024x1024 .bf16) (r : Fin 512) (d : Fin 1024) :
    k0_pay2 v0 v2 v5 v7 (ix2 r d)
      = MlpRow.proj (fun d => v5 (ix2 r d)) (fun k => v0 (ix2 r k)) (fun k => v2 (ix2 r k)) (fun k d => v7 (ix2 k d)) d := by
  pointwise [k0_pay2]
  rfl

theorem norm_at (v0 v2 : Vec Ideal S512x512 .bf16) (v5 : Vec Ideal S512x1024 .f32) (v7 : Vec Ideal S1024x1024 .bf16) (g : Vec Ideal S1x1024 .f32) (r : Fin 512) (d : Fin 1024) :
    k0_pay3 v0 v2 v5 v7 g (ix2 r d)
      = MlpRow.norm (fun d => k0_pay2 v0 v2 v5 v7 (ix2 r d)) (fun d => g (ix2 0 d)) d := by
  unfold k0_pay3
  generalize k0_pay2 v0 v2 v5 v7 = h
  pointwise []
  rfl

theorem first_at (v0 v2 : Vec Ideal S512x512 .bf16) (v5 : Vec Ideal S512x1024 .f32) (v7 : Vec Ideal S1024x1024 .bf16) (g : Vec Ideal S1x1024 .f32)
    (wu wd : Vec Ideal S1024x1024 .bf16) (r : Fin 512) (d : Fin 1024) :
    k0_pay4 v0 v2 v5 v7 g wu wd (ix2 r d)
      = ∑ f : Fin 1024, MlpRow.act (fun k => k0_pay3 v0 v2 v5 v7 g (ix2 r k)) (fun k => wu (ix2 k f)) * wd (ix2 f d) := by
  unfold k0_pay4
  generalize k0_pay3 v0 v2 v5 v7 g = h
  pointwise []
  rfl

theorem rest_at (h : FVec Ideal S512x1024 .f32) (v : FVec Ideal S512x1024 .bf16) (a : FVec Ideal S512x1024 .f32)
    (w1 w2 w3 w4 w5 w6 : Vec Ideal S1024x1024 .bf16) (r : Fin 512) (d : Fin 1024) :
    k0_pay5 h v a w1 w2 w3 w4 w5 w6 (ix2 r d)
      = h (ix2 r d) + (((a (ix2 r d)
          + ∑ f : Fin 1024, MlpRow.act (fun k => v (ix2 r k)) (fun k => w1 (ix2 k f)) * w2 (ix2 f d))
          + ∑ f : Fin 1024, MlpRow.act (fun k => v (ix2 r k)) (fun k => w3 (ix2 k f)) * w4 (ix2 f d))
          + ∑ f : Fin 1024, MlpRow.act (fun k => v (ix2 r k)) (fun k => w5 (ix2 k f)) * w6 (ix2 f d)) := by
  pointwise [k0_pay5]
  rfl

theorem last_at (h : FVec Ideal S512x1024 .f32) (v : FVec Ideal S512x1024 .bf16) (a : FVec Ideal S512x1024 .f32)
    (w1 w2 w3 w4 w5 w6 : Vec Ideal S1024x1024 .bf16) (g : Vec Ideal S1x1024 .f32) (r : Fin 512) (d : Fin 1024) :
    k0_pay1 (k0_pay5 h v a w1 w2 w3 w4 w5 w6) (k0_pay6 g) (k0_pay7 h v a w1 w2 w3 w4 w5 w6) (ix2 r d)
      = MlpRow.norm (fun d => k0_pay5 h v a w1 w2 w3 w4 w5 w6 (ix2 r d)) (fun d => g (ix2 0 d)) d := by
  unfold k0_pay7
  generalize k0_pay5 h v a w1 w2 w3 w4 w5 w6 = y
  pointwise [k0_pay1, k0_pay6]
  rfl

theorem hz : (![0, 0] : Fin 2 → Nat) = fun _ => 0 := funext fun a => by fin_cases a <;> rfl

theorem ld_r0_0 (x : Vec Ideal S512x512 .bf16) (a : Fin 512) (b : Fin 512) : View.ld x r0_0 (ix2 a b) = x (ix2 a b) :=
  congrArg x (funext fun i => Fin.ext (by match i with
    | ⟨0, _⟩ => show 0 + 1 * a.val = a.val; omega
    | ⟨1, _⟩ => show 0 + 1 * b.val = b.val; omega))
theorem ld_r0_1 (x : Vec Ideal S512x1024 .f32) (a : Fin 512) (b : Fin 1024) : View.ld x r0_1 (ix2 a b) = x (ix2 a b) :=
  congrArg x (funext fun i => Fin.ext (by match i with
    | ⟨0, _⟩ => show 0 + 1 * a.val = a.val; omega
    | ⟨1, _⟩ => show 0 + 1 * b.val = b.val; omega))
theorem ld_r0_2 (x : Vec Ideal S1024x1024 .bf16) (a : Fin 1024) (b : Fin 1024) : View.ld x r0_2 (ix2 a b) = x (ix2 a b) :=
  congrArg x (funext fun i => Fin.ext (by match i with
    | ⟨0, _⟩ => show 0 + 1 * a.val = a.val; omega
    | ⟨1, _⟩ => show 0 + 1 * b.val = b.val; omega))
theorem ld_r0_3 (x : Vec Ideal S1x1024 .f32) (a : Fin 1) (b : Fin 1024) : View.ld x r0_3 (ix2 a b) = x (ix2 a b) :=
  congrArg x (funext fun i => Fin.ext (by match i with
    | ⟨0, _⟩ => show 0 + 1 * a.val = a.val; omega
    | ⟨1, _⟩ => show 0 + 1 * b.val = b.val; omega))
theorem ld_up0 (x : Vec Ideal S1024x4096 .bf16) (k i : Fin 1024) : View.ld x r0_4 (ix2 k i) = x (ix2 k ⟨i.val, by omega⟩) :=
  congrArg x (funext fun a => Fin.ext (by match a with
    | ⟨0, _⟩ => show 0 + 1 * k.val = k.val; omega
    | ⟨1, _⟩ => show 0 + 1 * i.val = i.val; omega))
theorem ld_up1 (x : Vec Ideal S1024x4096 .bf16) (k i : Fin 1024) : View.ld x r0_6 (ix2 k i) = x (ix2 k ⟨1024 + i.val, by omega⟩) :=
  congrArg x (funext fun a => Fin.ext (by match a with
    | ⟨0, _⟩ => show 0 + 1 * k.val = k.val; omega
    | ⟨1, _⟩ => show 1024 + 1 * i.val = 1024 + i.val; omega))
theorem ld_up2 (x : Vec Ideal S1024x4096 .bf16) (k i : Fin 1024) : View.ld x r0_8 (ix2 k i) = x (ix2 k ⟨2048 + i.val, by omega⟩) :=
  congrArg x (funext fun a => Fin.ext (by match a with
    | ⟨0, _⟩ => show 0 + 1 * k.val = k.val; omega
    | ⟨1, _⟩ => show 2048 + 1 * i.val = 2048 + i.val; omega))
theorem ld_up3 (x : Vec Ideal S1024x4096 .bf16) (k i : Fin 1024) : View.ld x r0_10 (ix2 k i) = x (ix2 k ⟨3072 + i.val, by omega⟩) :=
  congrArg x (funext fun a => Fin.ext (by match a with
    | ⟨0, _⟩ => show 0 + 1 * k.val = k.val; omega
    | ⟨1, _⟩ => show 3072 + 1 * i.val = 3072 + i.val; omega))
theorem ld_dn0 (x : Vec Ideal S4096x1024 .bf16) (i k : Fin 1024) : View.ld x r0_5 (ix2 i k) = x (ix2 ⟨i.val, by omega⟩ k) :=
  congrArg x (funext fun a => Fin.ext (by match a with
    | ⟨0, _⟩ => show 0 + 1 * i.val = i.val; omega
    | ⟨1, _⟩ => show 0 + 1 * k.val = k.val; omega))
theorem ld_dn1 (x : Vec Ideal S4096x1024 .bf16) (i k : Fin 1024) : View.ld x r0_7 (ix2 i k) = x (ix2 ⟨1024 + i.val, by omega⟩ k) :=
  congrArg x (funext fun a => Fin.ext (by match a with
    | ⟨0, _⟩ => show 1024 + 1 * i.val = 1024 + i.val; omega
    | ⟨1, _⟩ => show 0 + 1 * k.val = k.val; omega))
theorem ld_dn2 (x : Vec Ideal S4096x1024 .bf16) (i k : Fin 1024) : View.ld x r0_9 (ix2 i k) = x (ix2 ⟨2048 + i.val, by omega⟩ k) :=
  congrArg x (funext fun a => Fin.ext (by match a with
    | ⟨0, _⟩ => show 2048 + 1 * i.val = 2048 + i.val; omega
    | ⟨1, _⟩ => show 0 + 1 * k.val = k.val; omega))
theorem ld_dn3 (x : Vec Ideal S4096x1024 .bf16) (i k : Fin 1024) : View.ld x r0_11 (ix2 i k) = x (ix2 ⟨3072 + i.val, by omega⟩ k) :=
  congrArg x (funext fun a => Fin.ext (by match a with
    | ⟨0, _⟩ => show 3072 + 1 * i.val = 3072 + i.val; omega
    | ⟨1, _⟩ => show 0 + 1 * k.val = k.val; omega))

/-- The body's last payload over loads that read a row's operands. -/
theorem core (o p : Vec Ideal S512x512 .bf16) (x : Vec Ideal S512x1024 .f32) (w : Vec Ideal S1024x1024 .bf16) (g : Vec Ideal S1x1024 .f32)
    (u0 d0 u1 d1 u2 d2 u3 d3 : Vec Ideal S1024x1024 .bf16) (g' : Vec Ideal S1x1024 .f32) (r : Fin 512) (d : Fin 1024)
    (X : Fin 1024 → EReal) (O P : Fin 512 → EReal) (W : Fin 1024 → Fin 1024 → EReal) (G : Fin 1024 → EReal)
    (U : Fin 1024 → Fin 4096 → EReal) (D : Fin 4096 → Fin 1024 → EReal) (G' : Fin 1024 → EReal)
    (hx : ∀ d, x (ix2 r d) = X d) (ho : ∀ k, o (ix2 r k) = O k) (hp : ∀ k, p (ix2 r k) = P k) (hw : ∀ k d, w (ix2 k d) = W k d)
    (hg : ∀ d, g (ix2 0 d) = G d) (hg' : ∀ d, g' (ix2 0 d) = G' d)
    (hu0 : ∀ k i, u0 (ix2 k i) = U k ⟨i.val, by omega⟩) (hu1 : ∀ k i, u1 (ix2 k i) = U k ⟨1024 + i.val, by omega⟩)
    (hu2 : ∀ k i, u2 (ix2 k i) = U k ⟨2048 + i.val, by omega⟩) (hu3 : ∀ k i, u3 (ix2 k i) = U k ⟨3072 + i.val, by omega⟩)
    (hd0 : ∀ i k, d0 (ix2 i k) = D ⟨i.val, by omega⟩ k) (hd1 : ∀ i k, d1 (ix2 i k) = D ⟨1024 + i.val, by omega⟩ k)
    (hd2 : ∀ i k, d2 (ix2 i k) = D ⟨2048 + i.val, by omega⟩ k) (hd3 : ∀ i k, d3 (ix2 i k) = D ⟨3072 + i.val, by omega⟩ k) :
    k0_pay1 (k0_pay5 (k0_pay2 o p x w) (k0_pay3 o p x w g) (k0_pay4 o p x w g u0 d0) u1 d1 u2 d2 u3 d3) (k0_pay6 g')
        (k0_pay7 (k0_pay2 o p x w) (k0_pay3 o p x w g) (k0_pay4 o p x w g u0 d0) u1 d1 u2 d2 u3 d3) (ix2 r d)
      = MlpRow.row X O P W G U D G' d := by
  rw [last_at]
  simp only [rest_at, first_at, norm_at, proj_at, hx, ho, hp, hw, hg, hg', hu0, hu1, hu2, hu3, hd0, hd1, hd2, hd3]
  unfold MlpRow.row MlpRow.ff
  simp only [MlpRow.sum_runs]

/-- What the body leaves in the output block, row by row. -/
theorem out_at (x0 : Vec Ideal S512x1024 .f32) (x1 x2 : Vec Ideal S512x512 .bf16) (x3 : Vec Ideal S1024x1024 .bf16) (x4 : Vec Ideal S1x1024 .f32)
    (x5 : Vec Ideal S1024x4096 .bf16) (x6 : Vec Ideal S4096x1024 .bf16) (x7 : Vec Ideal S1x1024 .f32) (r : Fin 512) (d : Fin 1024) :
    out0_8 x0 x1 x2 x3 x4 x5 x6 x7 (ix2 r d)
      = MlpRow.row (fun d => x0 (ix2 r d)) (fun k => x1 (ix2 r k)) (fun k => x2 (ix2 r k)) (fun k d => x3 (ix2 k d)) (fun d => x4 (ix2 0 d))
          (fun k f => x5 (ix2 k f)) (fun f d => x6 (ix2 f d)) (fun d => x7 (ix2 0 d)) d := by
  unfold out0_8 k0_pay8 k0_pay9 k0_pay10
  rw [View.canon_unit_zero hz]
  exact core _ _ _ _ _ _ _ _ _ _ _ _ _ _ r d _ _ _ _ _ (fun k f => x5 (ix2 k f)) (fun f d => x6 (ix2 f d)) _ (fun d => ld_r0_1 x0 r d) (fun k => ld_r0_0 x1 r k) (fun k => ld_r0_0 x2 r k)
    (fun k d => ld_r0_2 x3 k d) (fun d => ld_r0_3 x4 0 d) (fun d => ld_r0_3 x7 0 d)
    (fun k i => ld_up0 x5 k i) (fun k i => ld_up1 x5 k i) (fun k i => ld_up2 x5 k i) (fun k i => ld_up3 x5 k i)
    (fun i k => ld_dn0 x6 i k) (fun i k => ld_dn1 x6 i k) (fun i k => ld_dn2 x6 i k) (fun i k => ld_dn3 x6 i k)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

/-- The reference's result, over the kernel's arguments. -/
abbrev REF (c : Dev nD) : FVec Ideal S16384x1024 .f32 :=
  Cert.MlpReferenceIdeal.Read.val_main_v41 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))

theorem point (c : Dev nD) (t : Fin cfg0.N) (r : Fin 512) (d : Fin 1024) :
    out0_8 (iblk m c 0 t) (iblk m c 1 t) (iblk m c 2 t) (iblk m c 3 t) (iblk m c 4 t) (iblk m c 5 t) (iblk m c 6 t) (iblk m c 7 t) (ix2 r d)
      = REF m c (((cfg0.win 8).blk t).view.emb (ix2 r d)) := by
  rw [out_at]
  have ht : t.val < 32 := t.isLt
  have e : REF m c (((cfg0.win 8).blk t).view.emb (ix2 r d)) = _ := (Cert.MlpReferenceIdeal.Read.val_main_v41_apply ..).trans
    ((congrArg _ (show _ = ix3 (⟨(t.val * 512 + r.val) / 4096, by omega⟩ : Fin 4) (⟨(t.val * 512 + r.val) % 4096, by omega⟩ : Fin 4096) d from by
      blk_ext [idx t])).trans (Cert.MlpReferenceIdeal.Val.row_at ..))
  rw [e]
  clear e
  congr 1
  · funext k; blk_point [iblk, V, idx t]
  · funext k; blk_point [iblk, V, idx t]
  · funext k; blk_point [iblk, V, idx t]
  · funext k f; blk_point [iblk, V, idx t]
  · funext k; blk_point [iblk, V, idx t]
  · funext k f; blk_point [iblk, V, idx t]
  · funext k f; blk_point [iblk, V, idx t]
  · funext k; blk_point [iblk, V, idx t]

theorem final (c : Dev nD) : (dats m 0 c).arrAt 8 (cfgs 0).N = REF m c := by
  refine (dats m 0 c).arrAt_eq_of_covers 8 _ (by decide +kernel) fun t _ y => ?_
  blk_simp
  rw [after0_8]
  rw [eq_ix2 y]
  exact point m c t _ _

end Cert.MlpIdeal.Val
-- ==== Proof.MlpClaim.lean ====
module

public import proofs.«01_k».proof.Defs
public import proofs.«01_k».proof.Proof.MlpValue
public import proofs.«01_k».proof.Proof.Gen.MlpIdeal.Value
public import proofs.«01_k».proof.Proof.Gen.MlpReferenceIdeal.Run
public import proofs.«01_k».proof.Proof.Gen.MlpReferenceIdeal.Read
public import Idealize.ShloMosaic.Adequacy
public import Idealize.ShloMosaic.Init
public import Idealize.ShloMosaic.Lib.Claim

@[expose] public section

noncomputable section

namespace Cert.Proof

open Idealize.ShloMosaic Idealize.SL.Sem

/-- The value claim of the prompt's output projection, MLP and final norm. -/
theorem mlp_value : algebraic_MlpIdeal_MlpReferenceIdeal := by
  pair_intro
  · run_from Cert.MlpIdeal.Value.run_blocks m g
  · run_from Cert.MlpReferenceIdeal.Value.run m' g'
    obtain ⟨h0, h1, h2, h3, h4, h5, h6, h7⟩ := hagree c
    rw [Cert.MlpReferenceIdeal.Read.val_main_v41_eq, h0, h1, h2, h3, h4, h5, h6, h7]
    exact (Cert.MlpIdeal.Val.final m c).symm

end Cert.Proof
-- ==== Proof.SselDefs.lean ====
module

public import proofs.«01_k».proof.Proof.Gen.KernelIdeal.Value
public import Idealize.ShloMosaic.Lib.Pipeline.ValueKit
public import Idealize.ShloMosaic.Lib.Pointwise.Tactic

@[expose] public section

set_option maxRecDepth 20000

noncomputable section

/-! The words of the kernel body, group by group: one head group's weights, output and scores as functions of its queries, slopes,
    block summaries, and the chain of comparisons that ranks the blocks as a recursion on the number of rotations. -/

namespace Cert.KernelIdeal.Words

open Cert.KernelIdeal Cert.KernelIdeal.Gen Idealize.ShloMosaic Idealize.ShloMosaic.TcCoe Idealize.SL.Sem

variable {F : FTy → Type} [FloatOps F]

/-- The positions of the 32 query rows of a group. -/
def pos : IVec S32x1 32 := k0_pay12 k0_pay8

section group
variable (q : FVec F S32x64 .bf16) (sl : FVec F S32x1 .f32) (ck cv : FVec F S128x128 .bf16)
  (kn : Vec F S1x1x1x1x128 .f32) (vn : FVec F S1x64 .f32)

/-- Unnormalised weights of the even blocks. -/
def e0 : FVec F S32x128 .f32 :=
  k0_pay28 k0_pay4 k0_pay5 sl pos (k0_pay16 q ck) (k0_pay17 q kn) (k0_pay19 (F := F) k0_pay2 pos)
    (k0_pay20 k0_pay2 q sl pos ck) (k0_pay21 k0_pay3 pos)

/-- Unnormalised weights of the odd blocks. -/
def e1 : FVec F S32x128 .f32 :=
  k0_pay29 k0_pay4 k0_pay5 sl pos (k0_pay16 q ck) (k0_pay17 q kn)
    (k0_pay20 k0_pay2 q sl pos ck) (k0_pay21 k0_pay3 pos)

/-- Exponentials of the tile that holds the new block. -/
def e2 : FVec F S32x128 .f32 :=
  k0_pay30 k0_pay4 k0_pay5 sl pos (k0_pay16 q ck) (k0_pay17 q kn)
    (k0_pay20 k0_pay2 q sl pos ck) (k0_pay21 k0_pay3 pos)

/-- Weights of the even blocks. -/
def p0 : FVec F S32x128 .f32 :=
  k0_pay33 (k0_pay25 (F := F) k0_pay4 k0_pay5 pos) (e0 q sl ck kn) (e1 q sl ck kn) (e2 q sl ck kn) (FloatOps.ofBits .f32 0#32)

/-- Weights of the odd blocks. -/
def p1 : FVec F S32x128 .f32 :=
  k0_pay34 (k0_pay25 (F := F) k0_pay4 k0_pay5 pos) (e0 q sl ck kn) (e1 q sl ck kn) (e2 q sl ck kn) (FloatOps.ofBits .f32 0#32)

/-- Weights of the tile that holds the new block. -/
def p2 : FVec F S32x128 .f32 :=
  k0_pay35 (k0_pay25 (F := F) k0_pay4 k0_pay5 pos) (e0 q sl ck kn) (e1 q sl ck kn) (e2 q sl ck kn) (FloatOps.ofBits .f32 0#32)

/-- The attention output of a group's 32 query rows. -/
def oc : FVec F S32x64 .f32 :=
  k0_pay36 cv vn (k0_pay25 (F := F) k0_pay4 k0_pay5 pos) (e0 q sl ck kn) (e1 q sl ck kn) (e2 q sl ck kn) (FloatOps.ofBits .f32 0#32)

/-- The scores of the even blocks. -/
def s0 : FVec F S8x128 .f32 :=
  k0_pay44 k0_pay2 k0_pay6 (k0_pay42 (p0 q sl ck kn)) (k0_pay43 k0_pay2 k0_pay6) (FloatOps.ofBits .f32 1084227584#32)

/-- The scores of the odd blocks. -/
def s1 : FVec F S8x128 .f32 := k0_pay45 k0_pay3 k0_pay6 (p1 q sl ck kn)

/-- The score of the new block. -/
def sn : FVec F S8x1 .f32 :=
  k0_pay49 k0_pay4 k0_pay5 k0_pay6 (k0_pay46 (p2 q sl ck kn)) (k0_pay47 k0_pay4 k0_pay6) (k0_pay48 k0_pay4 k0_pay6)

end group

/-- The lane numbers. -/
def lane : IVec S1x128 32 := iota .tc S1x128 32 [1] iota_S1x128_d1_w32

/-- The token numbers. -/
def tok : IVec S8x1 32 := iota .tc S8x1 32 [0] iota_S8x1_d0_w32

/-- The even block that a rotation by `r` brings to each lane. -/
def yi0 (r : BitVec 32) : IVec S1x128 32 :=
  muli (broadcast S1x128 2#32) (andi (subi lane (broadcast S1x128 r)) (broadcast S1x128 127#32))

/-- The odd block that a rotation by `r` brings to each lane. -/
def yi1 (r : BitVec 32) : IVec S1x128 32 := addi (yi0 r) (broadcast S1x128 1#32)

/-- One comparison: 1 where the other block is ahead. -/
def step (y : FVec F S8x128 .f32) (yi idx : IVec S1x128 32) (s : FVec F S8x128 .f32) : IVec S8x128 32 :=
  select (ori (cmpf .ogt y s) (andi (cmpf .oeq y s) (broadcastTo S8x128 (cmpi .slt yi idx) broadcasts_S1x128_S8x128)))
    (broadcast S8x128 1#32) (broadcast S8x128 0#32)

/-- `n` comparisons, by rotations of `off`, `off + 2`, and so on. -/
def chain (base : IVec S8x128 32) (y : FVec F S8x128 .f32) (yi : BitVec 32 → IVec S1x128 32) (idx : IVec S1x128 32)
    (s : FVec F S8x128 .f32) (off n : Nat) : IVec S8x128 32 :=
  Nat.rec (motive := fun _ => IVec S8x128 32) base
    (fun k a => addi a (step (dynamicRotate 1 (BitVec.ofNat 32 (2 * k + off)) none y rotates_S8x128_d1)
      (yi (BitVec.ofNat 32 (2 * k + off))) idx s)) n

/-- 1 where the new block's score is greater. -/
def newAhead (n : FVec F S8x1 .f32) (s : FVec F S8x128 .f32) : IVec S8x128 32 :=
  select (cmpf .ogt (broadcastTo S8x128 n broadcasts_S8x1_S8x128) s) (broadcast S8x128 1#32) (broadcast S8x128 0#32)

/-- Ranks of the even blocks, below sixteen. -/
def sel0 (a b : FVec F S8x128 .f32) (n : FVec F S8x1 .f32) : IVec S8x128 1 :=
  cmpi .slt (addi (chain (addi (chain (newAhead n a) a yi0 k0_pay2 a 2 63) (step b (yi1 0#32) k0_pay2 a)) b yi1 k0_pay2 a 2 63)
    (chain (chain (broadcast S8x128 0#32) a yi0 k0_pay2 a 1 64) b yi1 k0_pay2 a 1 64)) (broadcast S8x128 16#32)

/-- Ranks of the odd blocks, below sixteen. -/
def sel1 (a b : FVec F S8x128 .f32) (n : FVec F S8x1 .f32) : IVec S8x128 1 :=
  cmpi .slt (addi (chain (chain (addi (newAhead n b) (step a (yi0 0#32) k0_pay3 b)) a yi0 k0_pay3 b 2 63) b yi1 k0_pay3 b 2 63)
    (chain (chain (broadcast S8x128 0#32) a yi0 k0_pay3 b 1 64) b yi1 k0_pay3 b 1 64)) (broadcast S8x128 16#32)

variable (c : Dev nD) (arg1 : Memref sig .tc .vmem S1x8x512 .f32) (harg1 : arg1.IsWhole) (arg2 : Memref sig .tc .vmem S1x8x128 .f32) (harg2 : arg2.IsWhole) (arg3 : Memref sig .tc .vmem S2x2x128x128 .bf16) (harg3 : arg3.IsWhole) (arg4 : Memref sig .tc .vmem S2x2x1x1x128 .f32) (harg4 : arg4.IsWhole)
    (x0 : Vec F S1x8x512 .f32) (x1 : Vec F S1x8x128 .f32) (x2 : Vec F S2x2x128x128 .bf16) (x3 : Vec F S2x2x1x1x128 .f32)

/-- The new keys of the first group, as loaded. -/
def kn0 : Vec F S1x1x1x1x128 .f32 :=
  let v := View.readAt (Elt F) arg4.view (Rect.unit (s := S2x2x1x1x128) ![0, 0, 0, 0, 0] S1x1x1x1x128.size inb_S2x2x1x1x128_S1x1x1x1x128_0_0_0_0_0).toLoadRect (harg4.unread x3)
  v

/-- The new keys of the second group, as loaded. -/
def kn1 : Vec F S1x1x1x1x128 .f32 :=
  let v := View.readAt (Elt F) arg4.view (Rect.unit (s := S2x2x1x1x128) ![1, 0, 0, 0, 0] S1x1x1x1x128.size inb_S2x2x1x1x128_S1x1x1x1x128_1_0_0_0_0).toLoadRect (harg4.unread x3)
  v

/-- The past keys of the second group, as loaded. -/
def ck1 : FVec F S128x128 .bf16 :=
  let v := View.readAt (Elt F) arg3.view (Rect.unit (s := S2x2x128x128) ![1, 0, 0, 0] S1x1x128x128.size inb_S2x2x128x128_S1x1x128x128_1_0_0_0).toLoadRect (harg3.unread x2)
  k0_pay13 v

end Cert.KernelIdeal.Words
-- ==== Proof.SselWords.lean ====
module

public import proofs.«01_k».proof.Proof.SselDefs

@[expose] public section

set_option maxRecDepth 20000

noncomputable section

namespace Cert.KernelIdeal.Words

open Cert.KernelIdeal Cert.KernelIdeal.Gen Idealize.ShloMosaic Idealize.ShloMosaic.TcCoe Idealize.SL.Sem

variable {F : FTy → Type} [FloatOps F]
variable (c : Dev nD) (arg1 : Memref sig .tc .vmem S1x8x512 .f32) (harg1 : arg1.IsWhole) (arg2 : Memref sig .tc .vmem S1x8x128 .f32) (harg2 : arg2.IsWhole) (arg3 : Memref sig .tc .vmem S2x2x128x128 .bf16) (harg3 : arg3.IsWhole) (arg4 : Memref sig .tc .vmem S2x2x1x1x128 .f32) (harg4 : arg4.IsWhole)
    (x0 : Vec F S1x8x512 .f32) (x1 : Vec F S1x8x128 .f32) (x2 : Vec F S2x2x128x128 .bf16) (x3 : Vec F S2x2x1x1x128 .f32)

/-- The first group's output. -/
theorem r17 : kernelRun0_A.sl.r_17 c arg1 harg1 arg3 harg3 arg4 harg4 x0 x2 x3
    = oc (kernelRun0_A.sl.r c arg1 harg1 x0) kernelRun0_A.sl.r_1 (kernelRun0_A.sl.r_2 c arg3 harg3 x2) (kernelRun0_A.sl.r_3 c arg3 harg3 x2) (kn0 arg4 harg4 x3) (kernelRun0_A.sl.r_4 c arg4 harg4 x3) := by sl_kernel_rfl

/-- The first group's scores of the even blocks. -/
theorem r20 : kernelRun0_A.sl.r_20 c arg1 harg1 arg3 harg3 arg4 harg4 x0 x2 x3
    = s0 (kernelRun0_A.sl.r c arg1 harg1 x0) kernelRun0_A.sl.r_1 (kernelRun0_A.sl.r_2 c arg3 harg3 x2) (kn0 arg4 harg4 x3) := by sl_kernel_rfl

/-- The first group's scores of the odd blocks. -/
theorem r21 : kernelRun0_A.sl.r_21 c arg1 harg1 arg3 harg3 arg4 harg4 x0 x2 x3
    = s1 (kernelRun0_A.sl.r c arg1 harg1 x0) kernelRun0_A.sl.r_1 (kernelRun0_A.sl.r_2 c arg3 harg3 x2) (kn0 arg4 harg4 x3) := by sl_kernel_rfl

/-- The first group's score of the new block. -/
theorem r23 : kernelRun0_A.sl.r_23 c arg1 harg1 arg3 harg3 arg4 harg4 x0 x2 x3
    = sn (kernelRun0_A.sl.r c arg1 harg1 x0) kernelRun0_A.sl.r_1 (kernelRun0_A.sl.r_2 c arg3 harg3 x2) (kn0 arg4 harg4 x3) := by sl_kernel_rfl

/-- The second group's output. -/
theorem r773 : kernelRun0_A.sl.r_773 c arg1 harg1 arg3 harg3 arg4 harg4 x0 x2 x3
    = oc (kernelRun0_A.sl.r_755 c arg1 harg1 x0) (k0_pay1302 kernelRun0_A.sl.v52) (ck1 arg3 harg3 x2) (kernelRun0_A.sl.r_756 c arg3 harg3 x2) (kn1 arg4 harg4 x3) (kernelRun0_A.sl.r_757 c arg4 harg4 x3) := by sl_kernel_rfl

/-- The second group's scores of the even blocks. -/
theorem r776 : kernelRun0_A.sl.r_776 c arg1 harg1 arg3 harg3 arg4 harg4 x0 x2 x3
    = s0 (kernelRun0_A.sl.r_755 c arg1 harg1 x0) (k0_pay1302 kernelRun0_A.sl.v52) (ck1 arg3 harg3 x2) (kn1 arg4 harg4 x3) := by sl_kernel_rfl

/-- The second group's scores of the odd blocks. -/
theorem r777 : kernelRun0_A.sl.r_777 c arg1 harg1 arg3 harg3 arg4 harg4 x0 x2 x3
    = s1 (kernelRun0_A.sl.r_755 c arg1 harg1 x0) (k0_pay1302 kernelRun0_A.sl.v52) (ck1 arg3 harg3 x2) (kn1 arg4 harg4 x3) := by sl_kernel_rfl

/-- The second group's score of the new block. -/
theorem r780 : kernelRun0_A.sl.r_780 c arg1 harg1 arg3 harg3 arg4 harg4 x0 x2 x3
    = sn (kernelRun0_A.sl.r_755 c arg1 harg1 x0) (k0_pay1302 kernelRun0_A.sl.v52) (ck1 arg3 harg3 x2) (kn1 arg4 harg4 x3) := by sl_kernel_rfl

/-- The first group's page bits. -/
theorem bits753 : k0_pay1298 (kernelRun0_A.sl.r_753 c arg1 harg1 arg3 harg3 arg4 harg4 x0 x2 x3)
    = k0_pay1298 (k0_pay1296 tok (sel0 (kernelRun0_A.sl.r_20 c arg1 harg1 arg3 harg3 arg4 harg4 x0 x2 x3) (kernelRun0_A.sl.r_21 c arg1 harg1 arg3 harg3 arg4 harg4 x0 x2 x3) (kernelRun0_A.sl.r_23 c arg1 harg1 arg3 harg3 arg4 harg4 x0 x2 x3)) (sel1 (kernelRun0_A.sl.r_20 c arg1 harg1 arg3 harg3 arg4 harg4 x0 x2 x3) (kernelRun0_A.sl.r_21 c arg1 harg1 arg3 harg3 arg4 harg4 x0 x2 x3) (kernelRun0_A.sl.r_23 c arg1 harg1 arg3 harg3 arg4 harg4 x0 x2 x3))) := by sl_kernel_rfl

/-- The first group's new bits. -/
theorem bits754 : k0_pay1299 (kernelRun0_A.sl.r_754 c arg1 harg1 arg3 harg3 arg4 harg4 x0 x2 x3)
    = k0_pay1298 (k0_pay1297 k0_pay5 tok (kernelRun0_A.sl.r_21 c arg1 harg1 arg3 harg3 arg4 harg4 x0 x2 x3) (kernelRun0_A.sl.r_23 c arg1 harg1 arg3 harg3 arg4 harg4 x0 x2 x3) (k0_pay1295 (kernelRun0_A.sl.r_20 c arg1 harg1 arg3 harg3 arg4 harg4 x0 x2 x3) (kernelRun0_A.sl.r_23 c arg1 harg1 arg3 harg3 arg4 harg4 x0 x2 x3))) := by sl_kernel_rfl

/-- The second group's page bits. -/
theorem bits1536 : k0_pay2575 (kernelRun0_A.sl.r_1536 c arg1 harg1 arg3 harg3 arg4 harg4 x0 x2 x3)
    = k0_pay1298 (k0_pay1296 tok (sel0 (kernelRun0_A.sl.r_776 c arg1 harg1 arg3 harg3 arg4 harg4 x0 x2 x3) (kernelRun0_A.sl.r_777 c arg1 harg1 arg3 harg3 arg4 harg4 x0 x2 x3) (kernelRun0_A.sl.r_780 c arg1 harg1 arg3 harg3 arg4 harg4 x0 x2 x3)) (sel1 (kernelRun0_A.sl.r_776 c arg1 harg1 arg3 harg3 arg4 harg4 x0 x2 x3) (kernelRun0_A.sl.r_777 c arg1 harg1 arg3 harg3 arg4 harg4 x0 x2 x3) (kernelRun0_A.sl.r_780 c arg1 harg1 arg3 harg3 arg4 harg4 x0 x2 x3))) := by sl_kernel_rfl

/-- The second group's new bits. -/
theorem bits1537 : kernelRun0_A.sl.r_1537 c arg1 harg1 arg3 harg3 arg4 harg4 x0 x2 x3
    = k0_pay1298 (k0_pay1297 k0_pay5 tok (kernelRun0_A.sl.r_777 c arg1 harg1 arg3 harg3 arg4 harg4 x0 x2 x3) (kernelRun0_A.sl.r_780 c arg1 harg1 arg3 harg3 arg4 harg4 x0 x2 x3) (k0_pay1295 (kernelRun0_A.sl.r_776 c arg1 harg1 arg3 harg3 arg4 harg4 x0 x2 x3) (kernelRun0_A.sl.r_780 c arg1 harg1 arg3 harg3 arg4 harg4 x0 x2 x3))) := by sl_kernel_rfl

end Cert.KernelIdeal.Words
-- ==== Proof.SselBlocks.lean ====
module

public import proofs.«01_k».proof.Proof.SselWords
public import Idealize.ShloMosaic.Lib.WholeRead

@[expose] public section

set_option maxRecDepth 20000

noncomputable section

/-! The output blocks. -/

namespace Cert.KernelIdeal.Words

open Cert.KernelIdeal Cert.KernelIdeal.Gen Idealize.ShloMosaic Idealize.ShloMosaic.TcCoe Idealize.SL.Sem

variable (c : Dev nD) (i : grid0.Coords) (arg1 : Memref sig .tc .vmem S1x8x512 .f32) (harg1 : arg1.IsWhole) (arg2 : Memref sig .tc .vmem S1x8x128 .f32) (harg2 : arg2.IsWhole) (arg3 : Memref sig .tc .vmem S2x2x128x128 .bf16) (harg3 : arg3.IsWhole) (arg4 : Memref sig .tc .vmem S2x2x1x1x128 .f32) (harg4 : arg4.IsWhole)
    (arg5 : Memref sig .tc .vmem S1x8x512 .f32) (harg5 : arg5.IsWhole) (arg6 : Memref sig .tc .vmem S1x2x2x128 .i32) (harg6 : arg6.IsWhole) (arg7 : Memref sig .tc .vmem S8x512 .f32) (harg7 : arg7.IsWhole)
    (x0 : Vec Ideal S1x8x512 .f32) (x1 : Vec Ideal S1x8x128 .f32) (x2 : Vec Ideal S2x2x128x128 .bf16) (x3 : Vec Ideal S2x2x1x1x128 .f32)

theorem read_oc (t : Fin 8) (d : Fin 512) : out0_A_4 c i arg1 harg1 arg2 harg2 arg3 harg3 arg4 harg4 arg5 harg5 arg6 harg6 arg7 harg7 x0 x1 x2 x3 (ix3 0 t d)
    = View.canon (kernelRun0_A.sl.HS0_8 c arg1 harg1 arg2 harg2 arg3 harg3 arg4 harg4 x0 x1 x2 x3) (ix2 t d) := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  rw [View.canon_unit_zero (funext fun a => by fin_cases a <;> rfl)]
  unfold k0_pay1
  generalize hv : kernelRun0_A.sl.v15106 c arg1 harg1 arg2 harg2 arg3 harg3 arg4 harg4 arg7 x0 x1 x2 x3 = v
  pointwise []
  rw [← hv]
  unfold kernelRun0_A.sl.v15106
  rw [View.readCov_eq_canon _ _ _ fun j => View.cover_of_tiledL (kernelRun0_A.sl.HS0_8 c arg1 harg1 arg2 harg2 arg3 harg3 arg4 harg4 x0 x1 x2 x3) S8x64.size (by sl_kernel_rfl) _]
  refine congrArg (View.canon (kernelRun0_A.sl.HS0_8 c arg1 harg1 arg2 harg2 arg3 harg3 arg4 harg4 x0 x1 x2 x3)) ?_
  funext a
  match a with
  | ⟨0, _⟩ => exact Fin.ext (by show 0 + 1 * t.val = t.val; omega)
  | ⟨1, _⟩ => exact Fin.ext (by show 0 + 1 * d.val = d.val; omega)

theorem bits_blk (g k : Fin 2) (l : Fin 128) : out0_A_5 c i arg1 harg1 arg2 harg2 arg3 harg3 arg4 harg4 arg5 harg5 arg6 harg6 arg7 harg7 x0 x1 x2 x3 (ix4 0 g k l)
    = (![![k0_pay1298 (kernelRun0_A.sl.r_753 c arg1 harg1 arg3 harg3 arg4 harg4 x0 x2 x3), k0_pay1299 (kernelRun0_A.sl.r_754 c arg1 harg1 arg3 harg3 arg4 harg4 x0 x2 x3)],
        ![k0_pay2575 (kernelRun0_A.sl.r_1536 c arg1 harg1 arg3 harg3 arg4 harg4 x0 x2 x3), kernelRun0_A.sl.r_1537 c arg1 harg1 arg3 harg3 arg4 harg4 x0 x2 x3]] g k) (ix4 0 0 0 l) := by
  unfold out0_A_5
  rw [View.read_writes_eq_canon _ _ _ (cover0_A_5 c i arg1 harg1 arg2 harg2 arg3 harg3 arg4 harg4 arg5 harg5 arg6 harg6 arg7 harg7 x0 x1 x2 x3)]
  unfold kernelRun0_A
  dsimp only
  generalize k0_pay1298 (kernelRun0_A.sl.r_753 c arg1 harg1 arg3 harg3 arg4 harg4 x0 x2 x3) = a
  generalize k0_pay1299 (kernelRun0_A.sl.r_754 c arg1 harg1 arg3 harg3 arg4 harg4 x0 x2 x3) = b
  generalize k0_pay2575 (kernelRun0_A.sl.r_1536 c arg1 harg1 arg3 harg3 arg4 harg4 x0 x2 x3) = a'
  generalize kernelRun0_A.sl.r_1537 c arg1 harg1 arg3 harg3 arg4 harg4 x0 x2 x3 = b'
  refine View.canon_eq_of_allAt _ _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x h
    have h1 : g.val = 1 + (x 1).val := h 1
    have h2 : k.val = 1 + (x 2).val := h 2
    have h3 : l.val = 0 + (x 3).val := h 3
    have l0 : (x 0).val < 1 := (x 0).isLt
    have l1 : (x 1).val < 1 := (x 1).isLt
    have l2 : (x 2).val < 1 := (x 2).isLt
    obtain rfl : g = 1 := Fin.ext (by show g.val = 1; omega)
    obtain rfl : k = 1 := Fin.ext (by show k.val = 1; omega)
    refine congrArg b' ?_
    funext i
    match i with
    | ⟨0, _⟩ => exact Fin.ext (by show (x 0).val = 0; omega)
    | ⟨1, _⟩ => exact Fin.ext (by show (x 1).val = 0; omega)
    | ⟨2, _⟩ => exact Fin.ext (by show (x 2).val = 0; omega)
    | ⟨3, _⟩ => exact Fin.ext (by show (x 3).val = l.val; omega)
  · intro x h
    have h1 : g.val = 1 + (x 1).val := h 1
    have h2 : k.val = 0 + (x 2).val := h 2
    have h3 : l.val = 0 + (x 3).val := h 3
    have l0 : (x 0).val < 1 := (x 0).isLt
    have l1 : (x 1).val < 1 := (x 1).isLt
    have l2 : (x 2).val < 1 := (x 2).isLt
    obtain rfl : g = 1 := Fin.ext (by show g.val = 1; omega)
    obtain rfl : k = 0 := Fin.ext (by show k.val = 0; omega)
    refine congrArg a' ?_
    funext i
    match i with
    | ⟨0, _⟩ => exact Fin.ext (by show (x 0).val = 0; omega)
    | ⟨1, _⟩ => exact Fin.ext (by show (x 1).val = 0; omega)
    | ⟨2, _⟩ => exact Fin.ext (by show (x 2).val = 0; omega)
    | ⟨3, _⟩ => exact Fin.ext (by show (x 3).val = l.val; omega)
  · intro x h
    have h1 : g.val = 0 + (x 1).val := h 1
    have h2 : k.val = 1 + (x 2).val := h 2
    have h3 : l.val = 0 + (x 3).val := h 3
    have l0 : (x 0).val < 1 := (x 0).isLt
    have l1 : (x 1).val < 1 := (x 1).isLt
    have l2 : (x 2).val < 1 := (x 2).isLt
    obtain rfl : g = 0 := Fin.ext (by show g.val = 0; omega)
    obtain rfl : k = 1 := Fin.ext (by show k.val = 1; omega)
    refine congrArg b ?_
    funext i
    match i with
    | ⟨0, _⟩ => exact Fin.ext (by show (x 0).val = 0; omega)
    | ⟨1, _⟩ => exact Fin.ext (by show (x 1).val = 0; omega)
    | ⟨2, _⟩ => exact Fin.ext (by show (x 2).val = 0; omega)
    | ⟨3, _⟩ => exact Fin.ext (by show (x 3).val = l.val; omega)
  · intro x h
    have h1 : g.val = 0 + (x 1).val := h 1
    have h2 : k.val = 0 + (x 2).val := h 2
    have h3 : l.val = 0 + (x 3).val := h 3
    have l0 : (x 0).val < 1 := (x 0).isLt
    have l1 : (x 1).val < 1 := (x 1).isLt
    have l2 : (x 2).val < 1 := (x 2).isLt
    obtain rfl : g = 0 := Fin.ext (by show g.val = 0; omega)
    obtain rfl : k = 0 := Fin.ext (by show k.val = 0; omega)
    refine congrArg a ?_
    funext i
    match i with
    | ⟨0, _⟩ => exact Fin.ext (by show (x 0).val = 0; omega)
    | ⟨1, _⟩ => exact Fin.ext (by show (x 1).val = 0; omega)
    | ⟨2, _⟩ => exact Fin.ext (by show (x 2).val = 0; omega)
    | ⟨3, _⟩ => exact Fin.ext (by show (x 3).val = l.val; omega)

theorem ldg (o : Fin 3 → ℕ) (inb : ∀ a, o a + (S1x8x1.size) a ≤ S1x8x128.size a) (t : Fin 8) (k : Fin 128) (h0 : o 0 = 0) (h1 : o 1 = 0) (h2 : o 2 = k.val) :
    View.readAt (Elt Ideal) arg2.view (Rect.unit (s := S1x8x128) o S1x8x1.size inb).toLoadRect (harg2.unread x1) (ix3 0 t 0) = x1 (ix3 0 t k) := by
  refine (Memref.IsWhole.readAt_unread harg2 x1 _ _).trans (congrArg x1 ?_)
  funext i
  match i with
  | ⟨0, _⟩ => exact Fin.ext (by show o 0 + 1 * 0 = 0; omega)
  | ⟨1, _⟩ => exact Fin.ext (by show o 1 + 1 * t.val = t.val; omega)
  | ⟨2, _⟩ => exact Fin.ext (by show o 2 + 1 * 0 = k.val; omega)

theorem gated0 (t : Fin 8) (e : Fin 64) : k0_pay37 (kernelRun0_A.sl.r_3 c arg3 harg3 x2) (kernelRun0_A.sl.r_4 c arg4 harg4 x3) (kernelRun0_A.sl.r_10 (F := Ideal)) (kernelRun0_A.sl.r_11 c arg1 harg1 arg3 harg3 arg4 harg4 x0 x2 x3) (kernelRun0_A.sl.r_12 c arg1 harg1 arg3 harg3 arg4 harg4 x0 x2 x3) (kernelRun0_A.sl.r_13 c arg1 harg1 arg3 harg3 arg4 harg4 x0 x2 x3) (kernelRun0_A.sl.cst_76 (F := Ideal)) (View.readAt (Elt Ideal) arg2.view (Rect.unit (s := S1x8x128) ![0, 0, 0] S1x8x1.size inb_S1x8x128_S1x8x1_0_0_0).toLoadRect (harg2.unread x1)) (ix2 t e)
    = x1 (ix3 0 t 0) * (kernelRun0_A.sl.r_17 c arg1 harg1 arg3 harg3 arg4 harg4 x0 x2 x3) (ix2 ⟨0 * 8 + t.val, by omega⟩ e) := by
  rw [← ldg arg2 harg2 x1 ![0, 0, 0] inb_S1x8x128_S1x8x1_0_0_0 t 0 rfl rfl rfl]
  rw [show (kernelRun0_A.sl.r_17 c arg1 harg1 arg3 harg3 arg4 harg4 x0 x2 x3) = k0_pay36 (kernelRun0_A.sl.r_3 c arg3 harg3 x2) (kernelRun0_A.sl.r_4 c arg4 harg4 x3) (kernelRun0_A.sl.r_10 (F := Ideal)) (kernelRun0_A.sl.r_11 c arg1 harg1 arg3 harg3 arg4 harg4 x0 x2 x3) (kernelRun0_A.sl.r_12 c arg1 harg1 arg3 harg3 arg4 harg4 x0 x2 x3) (kernelRun0_A.sl.r_13 c arg1 harg1 arg3 harg3 arg4 harg4 x0 x2 x3) (kernelRun0_A.sl.cst_76 (F := Ideal)) by sl_kernel_rfl]
  unfold k0_pay37
  generalize k0_pay36 (F := Ideal) _ _ _ _ _ _ _ = o
  generalize (View.readAt (Elt Ideal) arg2.view (Rect.unit (s := S1x8x128) ![0, 0, 0] S1x8x1.size inb_S1x8x128_S1x8x1_0_0_0).toLoadRect (harg2.unread x1)) = w
  pointwise []

theorem gated1 (t : Fin 8) (e : Fin 64) : k0_pay39 (kernelRun0_A.sl.r_17 c arg1 harg1 arg3 harg3 arg4 harg4 x0 x2 x3) (kernelRun0_A.sl.r_18 c arg2 harg2 x1) (ix2 t e)
    = x1 (ix3 0 t 1) * (kernelRun0_A.sl.r_17 c arg1 harg1 arg3 harg3 arg4 harg4 x0 x2 x3) (ix2 ⟨1 * 8 + t.val, by omega⟩ e) := by
  rw [← ldg arg2 harg2 x1 ![0, 0, 1] inb_S1x8x128_S1x8x1_0_0_1 t 1 rfl rfl rfl]
  unfold k0_pay39 kernelRun0_A.sl.r_18 k0_pay38
  generalize (kernelRun0_A.sl.r_17 c arg1 harg1 arg3 harg3 arg4 harg4 x0 x2 x3) = o
  generalize (View.readAt (Elt Ideal) arg2.view (Rect.unit (s := S1x8x128) ![0, 0, 1] S1x8x1.size inb_S1x8x128_S1x8x1_0_0_1).toLoadRect (harg2.unread x1)) = w
  pointwise []

theorem gated2 (t : Fin 8) (e : Fin 64) : k0_pay40 (kernelRun0_A.sl.r_17 c arg1 harg1 arg3 harg3 arg4 harg4 x0 x2 x3) (View.readAt (Elt Ideal) arg2.view (Rect.unit (s := S1x8x128) ![0, 0, 2] S1x8x1.size inb_S1x8x128_S1x8x1_0_0_2).toLoadRect (harg2.unread x1)) (ix2 t e)
    = x1 (ix3 0 t 2) * (kernelRun0_A.sl.r_17 c arg1 harg1 arg3 harg3 arg4 harg4 x0 x2 x3) (ix2 ⟨2 * 8 + t.val, by omega⟩ e) := by
  rw [← ldg arg2 harg2 x1 ![0, 0, 2] inb_S1x8x128_S1x8x1_0_0_2 t 2 rfl rfl rfl]
  unfold k0_pay40
  generalize (kernelRun0_A.sl.r_17 c arg1 harg1 arg3 harg3 arg4 harg4 x0 x2 x3) = o
  generalize (View.readAt (Elt Ideal) arg2.view (Rect.unit (s := S1x8x128) ![0, 0, 2] S1x8x1.size inb_S1x8x128_S1x8x1_0_0_2).toLoadRect (harg2.unread x1)) = w
  pointwise []

theorem gated3 (t : Fin 8) (e : Fin 64) : k0_pay41 (kernelRun0_A.sl.r_17 c arg1 harg1 arg3 harg3 arg4 harg4 x0 x2 x3) (View.readAt (Elt Ideal) arg2.view (Rect.unit (s := S1x8x128) ![0, 0, 3] S1x8x1.size inb_S1x8x128_S1x8x1_0_0_3).toLoadRect (harg2.unread x1)) (ix2 t e)
    = x1 (ix3 0 t 3) * (kernelRun0_A.sl.r_17 c arg1 harg1 arg3 harg3 arg4 harg4 x0 x2 x3) (ix2 ⟨3 * 8 + t.val, by omega⟩ e) := by
  rw [← ldg arg2 harg2 x1 ![0, 0, 3] inb_S1x8x128_S1x8x1_0_0_3 t 3 rfl rfl rfl]
  unfold k0_pay41
  generalize (kernelRun0_A.sl.r_17 c arg1 harg1 arg3 harg3 arg4 harg4 x0 x2 x3) = o
  generalize (View.readAt (Elt Ideal) arg2.view (Rect.unit (s := S1x8x128) ![0, 0, 3] S1x8x1.size inb_S1x8x128_S1x8x1_0_0_3).toLoadRect (harg2.unread x1)) = w
  pointwise []

theorem gated4 (t : Fin 8) (e : Fin 64) : k0_pay1331 (kernelRun0_A.sl.r_773 c arg1 harg1 arg3 harg3 arg4 harg4 x0 x2 x3) (View.readAt (Elt Ideal) arg2.view (Rect.unit (s := S1x8x128) ![0, 0, 4] S1x8x1.size inb_S1x8x128_S1x8x1_0_0_4).toLoadRect (harg2.unread x1)) (ix2 t e)
    = x1 (ix3 0 t 4) * (kernelRun0_A.sl.r_773 c arg1 harg1 arg3 harg3 arg4 harg4 x0 x2 x3) (ix2 ⟨0 * 8 + t.val, by omega⟩ e) := by
  rw [← ldg arg2 harg2 x1 ![0, 0, 4] inb_S1x8x128_S1x8x1_0_0_4 t 4 rfl rfl rfl]
  unfold k0_pay1331
  generalize (kernelRun0_A.sl.r_773 c arg1 harg1 arg3 harg3 arg4 harg4 x0 x2 x3) = o
  generalize (View.readAt (Elt Ideal) arg2.view (Rect.unit (s := S1x8x128) ![0, 0, 4] S1x8x1.size inb_S1x8x128_S1x8x1_0_0_4).toLoadRect (harg2.unread x1)) = w
  pointwise []

theorem gated5 (t : Fin 8) (e : Fin 64) : k0_pay1332 (kernelRun0_A.sl.r_773 c arg1 harg1 arg3 harg3 arg4 harg4 x0 x2 x3) (View.readAt (Elt Ideal) arg2.view (Rect.unit (s := S1x8x128) ![0, 0, 5] S1x8x1.size inb_S1x8x128_S1x8x1_0_0_5).toLoadRect (harg2.unread x1)) (ix2 t e)
    = x1 (ix3 0 t 5) * (kernelRun0_A.sl.r_773 c arg1 harg1 arg3 harg3 arg4 harg4 x0 x2 x3) (ix2 ⟨1 * 8 + t.val, by omega⟩ e) := by
  rw [← ldg arg2 harg2 x1 ![0, 0, 5] inb_S1x8x128_S1x8x1_0_0_5 t 5 rfl rfl rfl]
  unfold k0_pay1332
  generalize (kernelRun0_A.sl.r_773 c arg1 harg1 arg3 harg3 arg4 harg4 x0 x2 x3) = o
  generalize (View.readAt (Elt Ideal) arg2.view (Rect.unit (s := S1x8x128) ![0, 0, 5] S1x8x1.size inb_S1x8x128_S1x8x1_0_0_5).toLoadRect (harg2.unread x1)) = w
  pointwise []

theorem gated6 (t : Fin 8) (e : Fin 64) : k0_pay1333 (kernelRun0_A.sl.r_773 c arg1 harg1 arg3 harg3 arg4 harg4 x0 x2 x3) (View.readAt (Elt Ideal) arg2.view (Rect.unit (s := S1x8x128) ![0, 0, 6] S1x8x1.size inb_S1x8x128_S1x8x1_0_0_6).toLoadRect (harg2.unread x1)) (ix2 t e)
    = x1 (ix3 0 t 6) * (kernelRun0_A.sl.r_773 c arg1 harg1 arg3 harg3 arg4 harg4 x0 x2 x3) (ix2 ⟨2 * 8 + t.val, by omega⟩ e) := by
  rw [← ldg arg2 harg2 x1 ![0, 0, 6] inb_S1x8x128_S1x8x1_0_0_6 t 6 rfl rfl rfl]
  unfold k0_pay1333
  generalize (kernelRun0_A.sl.r_773 c arg1 harg1 arg3 harg3 arg4 harg4 x0 x2 x3) = o
  generalize (View.readAt (Elt Ideal) arg2.view (Rect.unit (s := S1x8x128) ![0, 0, 6] S1x8x1.size inb_S1x8x128_S1x8x1_0_0_6).toLoadRect (harg2.unread x1)) = w
  pointwise []

theorem gated7 (t : Fin 8) (e : Fin 64) : k0_pay1334 (kernelRun0_A.sl.r_773 c arg1 harg1 arg3 harg3 arg4 harg4 x0 x2 x3) (View.readAt (Elt Ideal) arg2.view (Rect.unit (s := S1x8x128) ![0, 0, 7] S1x8x1.size inb_S1x8x128_S1x8x1_0_0_7).toLoadRect (harg2.unread x1)) (ix2 t e)
    = x1 (ix3 0 t 7) * (kernelRun0_A.sl.r_773 c arg1 harg1 arg3 harg3 arg4 harg4 x0 x2 x3) (ix2 ⟨3 * 8 + t.val, by omega⟩ e) := by
  rw [← ldg arg2 harg2 x1 ![0, 0, 7] inb_S1x8x128_S1x8x1_0_0_7 t 7 rfl rfl rfl]
  unfold k0_pay1334
  generalize (kernelRun0_A.sl.r_773 c arg1 harg1 arg3 harg3 arg4 harg4 x0 x2 x3) = o
  generalize (View.readAt (Elt Ideal) arg2.view (Rect.unit (s := S1x8x128) ![0, 0, 7] S1x8x1.size inb_S1x8x128_S1x8x1_0_0_7).toLoadRect (harg2.unread x1)) = w
  pointwise []

theorem oc_blk (g : Fin 2) (h : Fin 4) (t : Fin 8) (e : Fin 64) : View.canon (kernelRun0_A.sl.HS0_8 c arg1 harg1 arg2 harg2 arg3 harg3 arg4 harg4 x0 x1 x2 x3) (ix2 t ⟨g.val * 256 + h.val * 64 + e.val, by omega⟩)
    = x1 (ix3 0 t ⟨g.val * 4 + h.val, by omega⟩) * (![kernelRun0_A.sl.r_17 c arg1 harg1 arg3 harg3 arg4 harg4 x0 x2 x3, kernelRun0_A.sl.r_773 c arg1 harg1 arg3 harg3 arg4 harg4 x0 x2 x3] g) (ix2 ⟨h.val * 8 + t.val, by omega⟩ e) := by
  refine View.canon_eq_of_allAt _ _ _ (View.cover_of_tiledL (kernelRun0_A.sl.HS0_8 c arg1 harg1 arg2 harg2 arg3 harg3 arg4 harg4 x0 x1 x2 x3) S8x64.size (by sl_kernel_rfl) _) ?_
  unfold kernelRun0_A.sl.HS0_8
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro x hx
    have h0 : t.val = 0 + (x 0).val := hx 0
    have h1 : g.val * 256 + h.val * 64 + e.val = 448 + (x 1).val := hx 1
    have l1 : (x 1).val < 64 := (x 1).isLt
    obtain rfl : g = 1 := Fin.ext (by show g.val = 1; omega)
    obtain rfl : h = 3 := Fin.ext (by show h.val = 3; have h1' : 1 * 256 + h.val * 64 + e.val = 448 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 1 * 256 + 3 * 64 + e.val = 448 + (x 1).val := h1; omega)
    rw [hx']
    exact gated7 c arg1 harg1 arg2 harg2 arg3 harg3 arg4 harg4 x0 x1 x2 x3 t e
  · intro x hx
    have h0 : t.val = 0 + (x 0).val := hx 0
    have h1 : g.val * 256 + h.val * 64 + e.val = 384 + (x 1).val := hx 1
    have l1 : (x 1).val < 64 := (x 1).isLt
    obtain rfl : g = 1 := Fin.ext (by show g.val = 1; omega)
    obtain rfl : h = 2 := Fin.ext (by show h.val = 2; have h1' : 1 * 256 + h.val * 64 + e.val = 384 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 1 * 256 + 2 * 64 + e.val = 384 + (x 1).val := h1; omega)
    rw [hx']
    exact gated6 c arg1 harg1 arg2 harg2 arg3 harg3 arg4 harg4 x0 x1 x2 x3 t e
  · intro x hx
    have h0 : t.val = 0 + (x 0).val := hx 0
    have h1 : g.val * 256 + h.val * 64 + e.val = 320 + (x 1).val := hx 1
    have l1 : (x 1).val < 64 := (x 1).isLt
    obtain rfl : g = 1 := Fin.ext (by show g.val = 1; omega)
    obtain rfl : h = 1 := Fin.ext (by show h.val = 1; have h1' : 1 * 256 + h.val * 64 + e.val = 320 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 1 * 256 + 1 * 64 + e.val = 320 + (x 1).val := h1; omega)
    rw [hx']
    exact gated5 c arg1 harg1 arg2 harg2 arg3 harg3 arg4 harg4 x0 x1 x2 x3 t e
  · intro x hx
    have h0 : t.val = 0 + (x 0).val := hx 0
    have h1 : g.val * 256 + h.val * 64 + e.val = 256 + (x 1).val := hx 1
    have l1 : (x 1).val < 64 := (x 1).isLt
    obtain rfl : g = 1 := Fin.ext (by show g.val = 1; omega)
    obtain rfl : h = 0 := Fin.ext (by show h.val = 0; have h1' : 1 * 256 + h.val * 64 + e.val = 256 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 1 * 256 + 0 * 64 + e.val = 256 + (x 1).val := h1; omega)
    rw [hx']
    exact gated4 c arg1 harg1 arg2 harg2 arg3 harg3 arg4 harg4 x0 x1 x2 x3 t e
  · intro x hx
    have h0 : t.val = 0 + (x 0).val := hx 0
    have h1 : g.val * 256 + h.val * 64 + e.val = 192 + (x 1).val := hx 1
    have l1 : (x 1).val < 64 := (x 1).isLt
    obtain rfl : g = 0 := Fin.ext (by show g.val = 0; omega)
    obtain rfl : h = 3 := Fin.ext (by show h.val = 3; have h1' : 0 * 256 + h.val * 64 + e.val = 192 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 0 * 256 + 3 * 64 + e.val = 192 + (x 1).val := h1; omega)
    rw [hx']
    exact gated3 c arg1 harg1 arg2 harg2 arg3 harg3 arg4 harg4 x0 x1 x2 x3 t e
  · intro x hx
    have h0 : t.val = 0 + (x 0).val := hx 0
    have h1 : g.val * 256 + h.val * 64 + e.val = 128 + (x 1).val := hx 1
    have l1 : (x 1).val < 64 := (x 1).isLt
    obtain rfl : g = 0 := Fin.ext (by show g.val = 0; omega)
    obtain rfl : h = 2 := Fin.ext (by show h.val = 2; have h1' : 0 * 256 + h.val * 64 + e.val = 128 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 0 * 256 + 2 * 64 + e.val = 128 + (x 1).val := h1; omega)
    rw [hx']
    exact gated2 c arg1 harg1 arg2 harg2 arg3 harg3 arg4 harg4 x0 x1 x2 x3 t e
  · intro x hx
    have h0 : t.val = 0 + (x 0).val := hx 0
    have h1 : g.val * 256 + h.val * 64 + e.val = 64 + (x 1).val := hx 1
    have l1 : (x 1).val < 64 := (x 1).isLt
    obtain rfl : g = 0 := Fin.ext (by show g.val = 0; omega)
    obtain rfl : h = 1 := Fin.ext (by show h.val = 1; have h1' : 0 * 256 + h.val * 64 + e.val = 64 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 0 * 256 + 1 * 64 + e.val = 64 + (x 1).val := h1; omega)
    rw [hx']
    exact gated1 c arg1 harg1 arg2 harg2 arg3 harg3 arg4 harg4 x0 x1 x2 x3 t e
  · intro x hx
    have h0 : t.val = 0 + (x 0).val := hx 0
    have h1 : g.val * 256 + h.val * 64 + e.val = 0 + (x 1).val := hx 1
    have l1 : (x 1).val < 64 := (x 1).isLt
    obtain rfl : g = 0 := Fin.ext (by show g.val = 0; omega)
    obtain rfl : h = 0 := Fin.ext (by show h.val = 0; have h1' : 0 * 256 + h.val * 64 + e.val = 0 + (x 1).val := h1; omega)
    have hx' : x = ix2 t e := by
      funext i
      match i with
      | ⟨0, _⟩ => exact Fin.ext (by show (x 0).val = t.val; omega)
      | ⟨1, _⟩ => exact Fin.ext (by show (x 1).val = e.val; have h1' : 0 * 256 + 0 * 64 + e.val = 0 + (x 1).val := h1; omega)
    rw [hx']
    exact gated0 c arg1 harg1 arg2 harg2 arg3 harg3 arg4 harg4 x0 x1 x2 x3 t e

end Cert.KernelIdeal.Words
-- ==== Proof.SselEntry.lean ====
module

public import proofs.«01_k».proof.Proof.Gen.KernelIdeal.Value
public import Idealize.ShloMosaic.Lib.Pipeline.ValueKit
public import Idealize.ShloMosaic.Lib.Pointwise.Tactic
public import Idealize.ShloMosaic.Lib.StableHlo.ReadAt

@[expose] public section

set_option maxRecDepth 20000

noncomputable section

namespace Cert.KernelIdeal.Words

open Cert.KernelIdeal Cert.KernelIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val, 0, 0] ∧ win0_1.index t = ![t.val, 0, 0] ∧ win0_2.index t = ![0, 0, t.val, 0] ∧ win0_3.index t = ![0, 0, t.val, 0, 0]
    ∧ win0_4.index t = ![t.val, 0, 0] ∧ win0_5.index t = ![t.val, 0, 0, 0] :=
  (by decide +kernel : ∀ t : Fin grid0.N, _)

/-- The arguments, by name. -/
abbrev A0 (c : Dev nD) : FVec Ideal S1x256x512 .bf16 := m ((c : Thread nD τ).loc main_arg0)
abbrev A1 (c : Dev nD) : FVec Ideal S1x256x128 .f32 := m ((c : Thread nD τ).loc main_arg1)
abbrev A2 (c : Dev nD) : FVec Ideal S2x2x4096x128 .bf16 := m ((c : Thread nD τ).loc main_arg2)
abbrev A3 (c : Dev nD) : FVec Ideal S2x2x32x128 .bf16 := m ((c : Thread nD τ).loc main_arg3)

theorem q_entry (c : Dev nD) (b : Fin 32) (t : Fin 8) (d : Fin 512) : V m c main_v1 (ix3 b t d) = A0 m c (ix3 0 ⟨b.val * 8 + t.val, by omega⟩ d) := by
  unfold V
  simp only [hostOps0, List.flatten_cons, List.flatten_nil, List.append_nil, List.cons_append, List.nil_append]
  after_reads_at
theorem g_entry (c : Dev nD) (b : Fin 32) (t : Fin 8) (d : Fin 128) : V m c main_v2 (ix3 b t d) = A1 m c (ix3 0 ⟨b.val * 8 + t.val, by omega⟩ d) := by
  unfold V
  simp only [hostOps0, List.flatten_cons, List.flatten_nil, List.append_nil, List.cons_append, List.nil_append]
  after_reads_at
theorem n_entry (c : Dev nD) (g k : Fin 2) (b : Fin 32) (d : Fin 128) : V m c main_v4 (ix5 g k b 0 d) = A3 m c (ix4 g k b d) := by
  unfold V
  simp only [hostOps0, List.flatten_cons, List.flatten_nil, List.append_nil, List.cons_append, List.nil_append]
  after_reads_at

theorem bt (t : Fin cfg0.N) : t.val < 32 := t.isLt

theorem q_at (c : Dev nD) (b : Fin cfg0.N) (t : Fin 8) (d : Fin 512) : iblk m c 0 b (ix3 0 t d) = A0 m c (ix3 0 ⟨b.val * 8 + t.val, by have := bt b; omega⟩ d) := by
  refine Eq.trans ?_ (q_entry m c ⟨b.val, bt b⟩ t d)
  show V m c main_v1 (((cfg0.win 0).blk b).view.emb (ix3 0 t d)) = _
  refine congrArg _ ?_
  blk_ext [idx b]
theorem gate_at (c : Dev nD) (b : Fin cfg0.N) (t : Fin 8) (d : Fin 128) : iblk m c 1 b (ix3 0 t d) = A1 m c (ix3 0 ⟨b.val * 8 + t.val, by have := bt b; omega⟩ d) := by
  refine Eq.trans ?_ (g_entry m c ⟨b.val, bt b⟩ t d)
  show V m c main_v2 (((cfg0.win 1).blk b).view.emb (ix3 0 t d)) = _
  refine congrArg _ ?_
  blk_ext [idx b]
theorem past_blk (c : Dev nD) (b : Fin cfg0.N) (g k : Fin 2) (n d : Fin 128) : iblk m c 2 b (ix4 g k n d) = A2 m c (ix4 g k ⟨b.val * 128 + n.val, by have := bt b; omega⟩ d) := by
  blk_ext [iblk, V, idx b]
theorem new_blk (c : Dev nD) (b : Fin cfg0.N) (g k : Fin 2) (d : Fin 128) : iblk m c 3 b (ix5 g k 0 0 d) = A3 m c (ix4 g k ⟨b.val, bt b⟩ d) := by
  refine Eq.trans ?_ (n_entry m c g k ⟨b.val, bt b⟩ d)
  show V m c main_v4 (((cfg0.win 3).blk b).view.emb (ix5 g k 0 0 d)) = _
  refine congrArg _ ?_
  blk_ext [idx b]

end Cert.KernelIdeal.Words
-- ==== Proof.SselSort.lean ====
module

public import proofs.«01_k».proof.Proof.Gen.ReferenceIdeal.Read
public import Idealize.ShloMosaic.Lib.SortFacts
public import Idealize.ShloMosaic.Lib.Pipeline.ValueKit
public import Idealize.ShloMosaic.Lib.Pointwise.Tactic
public import Idealize.ShloMosaic.Lib.StableHlo.ReadAt

@[expose] public section

set_option maxRecDepth 20000

noncomputable section

/-! The sixteen greatest of a row, ties in order of position: membership as a count of the entries ahead. -/

namespace Cert.Ssel

open Idealize.ShloMosaic Idealize.ShloMosaic.TcCoe Idealize.SL.Sem

/-- Entry `a` is ahead of entry `b`: greater, or equal and earlier. -/
def ahead {n : ℕ} (x : Fin n → EReal) (a b : Fin n) : Prop := x b < x a ∨ (x a = x b ∧ a < b)

open Classical in
/-- How many entries are ahead of entry `b`. -/
def rank {n : ℕ} (x : Fin n → EReal) (b : Fin n) : ℕ := (Finset.univ.filter fun a => ahead x a b).card

theorem ahead_asymm {n : ℕ} (x : Fin n → EReal) (a b : Fin n) (h : ahead x a b) : ¬ ahead x b a := by
  rintro (h' | ⟨h', h''⟩)
  · rcases h with h | ⟨h, _⟩
    · exact absurd h (not_lt.mpr h'.le)
    · exact absurd h' (by rw [h]; exact lt_irrefl _)
  · rcases h with h | ⟨_, h⟩
    · exact absurd h (by rw [h']; exact lt_irrefl _)
    · exact absurd h (not_lt.mpr h''.le)

theorem ahead_total {n : ℕ} (x : Fin n → EReal) (a b : Fin n) (h : a ≠ b) : ahead x a b ∨ ahead x b a := by
  unfold ahead
  rcases lt_trichotomy (x a) (x b) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem ahead_negtrans {n : ℕ} (x : Fin n → EReal) (a b c : Fin n) (h1 : ¬ ahead x a b) (h2 : ¬ ahead x b c) : ¬ ahead x a c := by
  unfold ahead at *
  push Not at h1 h2 ⊢
  refine ⟨h1.1.trans h2.1, fun h => ?_⟩
  have e1 : x a = x b := le_antisymm h1.1 (by rw [h]; exact h2.1)
  exact (h2.2 (by rw [← e1, h])).trans (h1.2 e1)

open Classical in
/-- Sorting increasing positions by value alone is sorting them by value and position. -/
theorem stable_lex {n : ℕ} (x : Fin n → EReal) (R : Fin n → Fin n → Bool) (hR : ∀ a b, R a b = decide (x b < x a)) :
    ∀ l : List (Fin n), l.Pairwise (· < ·) → stableSort R l = stableSort (fun a b => decide (ahead x a b)) l
  | [], _ => rfl
  | a :: l, h => by
    rw [List.pairwise_cons] at h
    unfold stableSort
    rw [stable_lex x R hR l h.2]
    refine insertBefore_congr _ _ _ _ fun b hb => ?_
    have hab : a < b := h.1 b ((perm_stableSort _ l).mem_iff.mp hb)
    rw [hR]
    refine decide_eq_decide.mpr ⟨.inl, ?_⟩
    rintro (h | ⟨_, h⟩)
    · exact h
    · exact absurd h (not_lt.mpr hab.le)

open Classical in
theorem sorted_rank {n : ℕ} (x : Fin n → EReal) (k : Fin n) :
    rank x (sortedFrom (fun a b => decide (ahead x a b)) k) = k.val := by
  set σ := sortedFrom (fun a b : Fin n => decide (ahead x a b)) with hσ
  have hinv : ∀ i j : Fin n, i < j → ¬ ahead x (σ j) (σ i) := fun i j hij => by
    have := sortedFrom_noInversion (fun a b : Fin n => decide (ahead x a b)) (fun a b : Fin n => decide (ahead x a b))
      (fun a b h => by simpa using ahead_asymm x a b (by simpa using h)) (fun a b h => h)
      (fun a b c h1 h2 => by simpa using ahead_negtrans x a b c (by simpa using h1) (by simpa using h2)) i j hij
    simpa using this
  have hinj : Function.Injective σ := sortedFrom_injective _
  have hsur : Function.Surjective σ := sortedFrom_surjective _
  have hset : (Finset.univ.filter fun a => ahead x a (σ k)) = (Finset.univ.filter fun i : Fin n => i < k).map ⟨σ, hinj⟩ := by
    ext a
    obtain ⟨i, rfl⟩ := hsur a
    simp only [Finset.mem_filter, Finset.mem_univ, true_and, Finset.mem_map, Function.Embedding.coeFn_mk]
    constructor
    · intro h
      refine ⟨i, ?_, rfl⟩
      by_contra hk
      rcases eq_or_lt_of_le (not_lt.mp hk) with e | e
      · subst e; exact ahead_asymm x _ _ h h
      · exact hinv k i e h
    · rintro ⟨j, hj, e⟩
      obtain rfl := hinj e
      rcases ahead_total x (σ j) (σ k) (fun e => absurd (hinj e) hj.ne) with h | h
      · exact h
      · exact absurd h (hinv j k hj)
  unfold rank
  rw [hset, Finset.card_map]
  have : (Finset.univ.filter fun i : Fin n => i < k) = Finset.Iio k := by ext; simp
  rw [this, Fin.card_Iio]

open Classical in
/-- Entry `b` is among the first `K` sorted positions exactly when fewer than `K` entries are ahead of it. -/
theorem mem_first {n K : ℕ} (x : Fin n → EReal) (R : Fin n → Fin n → Bool) (hR : ∀ a b, R a b = decide (x b < x a)) (hK : K ≤ n) (b : Fin n) :
    (∃ k : Fin K, sortedFrom R ⟨k.val, lt_of_lt_of_le k.isLt hK⟩ = b) ↔ rank x b < K := by
  have hs : ∀ k : Fin n, sortedFrom R k = sortedFrom (fun a b => decide (ahead x a b)) k := fun k => by
    have h := stable_lex x R hR (List.finRange n) (List.pairwise_lt_finRange n)
    unfold sortedFrom sortPositions
    simp only [List.get_eq_getElem, Fin.val_cast]
    exact List.getElem_of_eq h _
  constructor
  · rintro ⟨k, rfl⟩
    rw [hs, sorted_rank]
    exact k.isLt
  · intro h
    obtain ⟨k, rfl⟩ := sortedFrom_surjective (fun a b => decide (ahead x a b)) b
    rw [sorted_rank] at h
    exact ⟨⟨k.val, h⟩, by rw [hs]⟩

end Cert.Ssel

namespace Cert.ReferenceIdeal.Val

open Cert.ReferenceIdeal Cert.ReferenceIdeal.Gen Cert.ReferenceIdeal.Read Idealize.ShloMosaic Idealize.ShloMosaic.TcCoe Idealize.SL.Sem

variable (x0 : (⟨S1x256x512, .bf16⟩ : BufTy).Contents (Elt Ideal)) (x1 : (⟨S1x256x128, .f32⟩ : BufTy).Contents (Elt Ideal)) (x2 : (⟨S2x2x4096x128, .bf16⟩ : BufTy).Contents (Elt Ideal)) (x3 : (⟨S2x2x32x128, .bf16⟩ : BufTy).Contents (Elt Ideal))

/-- The scores of a query token and key group. -/
def S (b : Fin 32) (t : Fin 8) (g : Fin 2) (n : Fin 257) : EReal := val_main_v98 (F := Ideal) x0 x2 x3 (ix4 b t g n)

theorem along4 (b : Fin 32) (t : Fin 8) (g : Fin 2) (k a : Fin 257) :
    Shape.Idx.along (s := S32x8x2x257) (ix4 b t g k) 3 a = ix4 b t g a := by
  funext x
  match x with
  | ⟨0, _⟩ => rfl
  | ⟨1, _⟩ => rfl
  | ⟨2, _⟩ => rfl
  | ⟨3, _⟩ => rfl

theorem sort2_at (gt : EReal → EReal → BitVec 1) (X : S32x8x2x257.Idx → EReal) (j : S32x8x2x257.Idx) :
    (Host.sort2 S32x8x2x257 3 (fun l r : EReal × BitVec 32 => gt l.1 r.1) X
      (fun i => if hd : 3 < S32x8x2x257.rank then iotaInDim S32x8x2x257 32 ⟨3, hd⟩ i else 0#32)).2 j
    = BitVec.ofNat 32 (sortedFrom (n := 257) (fun a c => gt (X (Shape.Idx.along j 3 a)) (X (Shape.Idx.along j 3 c)) == 1#1) (j 3)).val := by
  unfold Host.sort2
  rw [dif_pos (show 3 < S32x8x2x257.rank by decide)]
  dsimp only
  rw [dif_pos (show 3 < S32x8x2x257.rank by decide)]
  unfold iotaInDim
  refine congrArg (fun v : Fin 257 => BitVec.ofNat 32 v.val) ?_
  exact Function.update_self _ _ _

/-- The chosen block number at place `k`. -/
theorem chosen (b : Fin 32) (t : Fin 8) (g : Fin 2) (k : Fin 16) : val_main_indices (F := Ideal) x0 x2 x3 (ix4 b t g k)
    = BitVec.ofNat 32 (sortedFrom (n := 257) (fun a c => decide (S x0 x2 x3 b t g c < S x0 x2 x3 b t g a)) ⟨k.val, by omega⟩).val := by
  unfold val_main_indices
  generalize hX : val_main_v98 (F := Ideal) x0 x2 x3 = X
  have hS : ∀ n, S x0 x2 x3 b t g n = X (ix4 b t g n) := fun n => by unfold S; rw [hX]
  simp only [hS]
  unfold Host.topK
  refine Eq.trans (b := _) (congrArg (Host.sort2 S32x8x2x257 3 (fun l r : EReal × BitVec 32 => FloatOps.cmpfTotal (F := Ideal) (φ := .f32) .gt l.1 r.1) X
      (fun i => if hd : 3 < S32x8x2x257.rank then iotaInDim S32x8x2x257 32 ⟨3, hd⟩ i else 0#32)).2
      (show _ = (ix4 b t g (⟨k.val, by omega⟩ : Fin 257) : S32x8x2x257.Idx) from by funext x; match x with | ⟨0, _⟩ => exact Fin.ext (Nat.zero_add _) | ⟨1, _⟩ => exact Fin.ext (Nat.zero_add _) | ⟨2, _⟩ => exact Fin.ext (Nat.zero_add _) | ⟨3, _⟩ => exact Fin.ext (Nat.zero_add _))) ?_
  refine (sort2_at (FloatOps.cmpfTotal (F := Ideal) (φ := .f32) .gt) X _).trans ?_
  refine congrArg (fun R => BitVec.ofNat 32 (sortedFrom (n := 257) R ⟨k.val, by omega⟩).val) ?_
  funext a c
  rw [along4, along4]
  show (Ideal.cmp .ogt (X (ix4 b t g a)) (X (ix4 b t g c)) == 1#1) = _
  simp only [Ideal.cmp]
  cases decide (X (ix4 b t g c) < X (ix4 b t g a)) <;> rfl

theorem fold_ori {α : Type} [DecidableEq α] (s : Finset α) (f : α → BitVec 1) :
    Finset.fold IntOp.ori 0#1 f s = BitVec.ofBool (decide (∃ k ∈ s, f k = 1#1)) := by
  induction s using Finset.induction_on with
  | empty => simp
  | insert a s ha ih =>
    rw [Finset.fold_insert ha, ih]
    have h2 : ∀ v : BitVec 1, v = 1#1 ∨ v = 0#1 := by decide
    rcases h2 (f a) with h | h
    · simp only [h, IntOp.ori, Finset.mem_insert, exists_eq_or_imp, true_or, decide_true]
      cases decide (∃ k ∈ s, f k = 1#1) <;> rfl
    · simp [h, IntOp.ori]

/-- Block `n` is chosen exactly when fewer than sixteen blocks are ahead of it. -/
theorem mask (b : Fin 32) (t : Fin 8) (g : Fin 2) (n : Fin 257) : val_main_v105 (F := Ideal) x0 x2 x3 (ix4 b t g n)
    = BitVec.ofBool (decide (Cert.Ssel.rank (S x0 x2 x3 b t g) n < 16)) := by
  have h104 : ∀ k : Fin 16, val_main_v104 (F := Ideal) x0 x2 x3 (ix5 b t g k n) = BitVec.ofBool (decide
      (sortedFrom (n := 257) (fun a c => decide (S x0 x2 x3 b t g c < S x0 x2 x3 b t g a)) ⟨k.val, by omega⟩ = n)) := fun k => by
    have h := chosen x0 x2 x3 b t g k
    unfold val_main_v104 val_main_v102 val_main_v99 val_main_v103 val_main_v101 val_main_v100
    generalize val_main_indices (F := Ideal) x0 x2 x3 = I at h
    pointwise [h]
    show BitVec.ofBool (BitVec.ofNat 32 _ == BitVec.ofNat 32 _) = _
    refine congrArg BitVec.ofBool ?_
    generalize sortedFrom (n := 257) _ _ = m
    have hm := m.isLt
    have hn := n.isLt
    by_cases hmn : m = n
    · subst hmn; simp
    · rw [decide_eq_false hmn, beq_eq_false_iff_ne]
      intro hc
      have hc := congrArg BitVec.toNat hc
      simp only [BitVec.toNat_ofNat] at hc
      exact hmn (Fin.ext (by omega))
  unfold val_main_v105
  generalize val_main_v104 (F := Ideal) x0 x2 x3 = I at h104
  pointwise []
  refine (fold_ori _ _).trans ?_
  refine congrArg BitVec.ofBool (decide_eq_decide.mpr (Iff.trans ?_ (Cert.Ssel.mem_first (S x0 x2 x3 b t g) (fun a c => decide (S x0 x2 x3 b t g c < S x0 x2 x3 b t g a)) (fun _ _ => rfl) (by decide) n)))
  constructor
  · rintro ⟨k, _, hk⟩
    refine ⟨k, ?_⟩
    rw [h104] at hk
    by_contra hc
    rw [decide_eq_false hc] at hk
    exact absurd hk (by decide)
  · rintro ⟨k, hk⟩
    refine ⟨k, Finset.mem_univ _, ?_⟩
    rw [h104, decide_eq_true hk]
    rfl

end Cert.ReferenceIdeal.Val
-- ==== Proof.SselRank.lean ====
module

public import proofs.«01_k».proof.Proof.SselDefs
public import proofs.«01_k».proof.Proof.SselSort

@[expose] public section

set_option maxRecDepth 20000

noncomputable section

/-! The kernel's chain of comparisons counts, for each block, the blocks ahead of it. -/

namespace Cert.KernelIdeal.Words

open Cert.KernelIdeal Cert.KernelIdeal.Gen Idealize.ShloMosaic Idealize.ShloMosaic.TcCoe Idealize.SL.Sem

theorem dyn (a : FVec Ideal S8x128 .f32) (r : BitVec 32) (t : Fin 8) (l : Fin 128) :
    dynamicRotate 1 r none a rotates_S8x128_d1 (ix2 t l) = a (ix2 t ⟨(l.val + 128 - r.toNat % 128) % 128, Nat.mod_lt _ (by decide)⟩) := by
  pointwise []

theorem step_at (y s : FVec Ideal S8x128 .f32) (yi idx : IVec S1x128 32) (t : Fin 8) (l : Fin 128) :
    step y yi idx s (ix2 t l) = Scalar.select (IntOp.ori (BitVec.ofBool (decide (s (ix2 t l) < y (ix2 t l))))
      (IntOp.andi (BitVec.ofBool (decide (y (ix2 t l) = s (ix2 t l)))) (IntOp.cmpi .slt (yi (ix2 0 l)) (idx (ix2 0 l))))) 1#32 0#32 := by
  unfold step
  pointwise []

theorem lane_sub (k l : Fin 128) : (BitVec.ofNat 32 l.val - BitVec.ofNat 32 k.val) &&& 127#32 = BitVec.ofNat 32 ((l.val + 128 - k.val) % 128) := by
  apply BitVec.eq_of_toNat_eq
  rw [BitVec.toNat_and, show (127#32).toNat = 2 ^ 7 - 1 from rfl, Nat.and_two_pow_sub_one_eq_mod, BitVec.toNat_sub]
  simp only [BitVec.toNat_ofNat]
  omega

theorem yi0_at (k : Fin 128) (l : Fin 128) : yi0 (BitVec.ofNat 32 k.val) (ix2 0 l) = BitVec.ofNat 32 (2 * ((l.val + 128 - k.val) % 128)) := by
  have : yi0 (BitVec.ofNat 32 k.val) (ix2 0 l) = IntOp.muli (2#32) (IntOp.andi (IntOp.subi (BitVec.ofNat 32 l.val) (BitVec.ofNat 32 k.val)) 127#32) := by
    unfold yi0 lane
    pointwise []
  rw [this]
  show 2#32 * ((BitVec.ofNat 32 l.val - BitVec.ofNat 32 k.val) &&& 127#32) = _
  rw [lane_sub]
  apply BitVec.eq_of_toNat_eq
  rw [BitVec.toNat_mul]
  simp only [BitVec.toNat_ofNat]
  omega

theorem yi1_at (k : Fin 128) (l : Fin 128) : yi1 (BitVec.ofNat 32 k.val) (ix2 0 l) = BitVec.ofNat 32 (2 * ((l.val + 128 - k.val) % 128) + 1) := by
  have : yi1 (BitVec.ofNat 32 k.val) (ix2 0 l) = IntOp.addi (yi0 (BitVec.ofNat 32 k.val) (ix2 0 l)) 1#32 := by
    unfold yi1
    pointwise []
  rw [this, yi0_at]
  apply BitVec.eq_of_toNat_eq
  show (_ + _ : BitVec 32).toNat = _
  rw [BitVec.toNat_add]
  simp only [BitVec.toNat_ofNat]
  omega

theorem newAhead_at (n : FVec Ideal S8x1 .f32) (s : FVec Ideal S8x128 .f32) (t : Fin 8) (l : Fin 128) :
    newAhead n s (ix2 t l) = if s (ix2 t l) < n (ix2 t 0) then 1#32 else 0#32 := by
  unfold newAhead
  pointwise []

theorem pay2 (l : Fin 128) : k0_pay2 (ix2 0 l) = BitVec.ofNat 32 (2 * l.val) := by
  revert l; decide +kernel
theorem pay3 (l : Fin 128) : k0_pay3 (ix2 0 l) = BitVec.ofNat 32 (2 * l.val + 1) := by
  revert l; decide +kernel

theorem slt_small (a b : ℕ) (ha : a < 2 ^ 20) (hb : b < 2 ^ 20) : IntOp.cmpi .slt (BitVec.ofNat 32 a) (BitVec.ofNat 32 b) = BitVec.ofBool (decide (a < b)) := by
  show BitVec.ofBool (BitVec.slt _ _) = _
  refine congrArg BitVec.ofBool ?_
  unfold BitVec.slt
  rw [BitVec.toInt_eq_toNat_of_lt (by simp only [BitVec.toNat_ofNat]; omega), BitVec.toInt_eq_toNat_of_lt (by simp only [BitVec.toNat_ofNat]; omega)]
  simp only [BitVec.toNat_ofNat]
  refine decide_eq_decide.mpr ?_
  omega

open Classical in
/-- 1 where entry `m` of `y`, numbered `w m`, is ahead of the value `s`, numbered `i`. -/
def ind (y : Fin 128 → EReal) (w : ℕ → ℕ) (s : EReal) (i : ℕ) (m : Fin 128) : ℕ := if s < y m ∨ (y m = s ∧ w m.val < i) then 1 else 0

theorem step_ind (y s : FVec Ideal S8x128 .f32) (yi idx : IVec S1x128 32) (t : Fin 8) (l m : Fin 128) (y' : Fin 128 → EReal) (w : ℕ → ℕ) (i : ℕ)
    (hy : y (ix2 t l) = y' m) (hw : yi (ix2 0 l) = BitVec.ofNat 32 (w m.val)) (hi : idx (ix2 0 l) = BitVec.ofNat 32 i) (hw' : w m.val < 257) (hi' : i < 257) :
    step y yi idx s (ix2 t l) = BitVec.ofNat 32 (ind y' w (s (ix2 t l)) i m) := by
  rw [step_at, hy, hw, hi, slt_small _ _ (by omega) (by omega)]
  unfold ind
  by_cases h1 : s (ix2 t l) < y' m <;> by_cases h2 : y' m = s (ix2 t l) <;> by_cases h3 : w m.val < i <;>
    simp [h1, h2, h3, Scalar.select, IntOp.ori, IntOp.andi]

theorem chain_at (base : IVec S8x128 32) (y s : FVec Ideal S8x128 .f32) (yi : BitVec 32 → IVec S1x128 32) (idx : IVec S1x128 32) (t : Fin 8) (l : Fin 128)
    (w : ℕ → ℕ) (i : ℕ) (hw : ∀ k : Fin 128, yi (BitVec.ofNat 32 k.val) (ix2 0 l) = BitVec.ofNat 32 (w ((l.val + 128 - k.val) % 128)))
    (hi : idx (ix2 0 l) = BitVec.ofNat 32 i) (hw' : ∀ m < 128, w m < 257) (hi' : i < 257) (off : ℕ) : ∀ n : ℕ, 2 * n + off ≤ 129 → off ≤ 2 →
    chain base y yi idx s off n (ix2 t l) = base (ix2 t l) + BitVec.ofNat 32 (∑ k ∈ Finset.range n,
      ind (fun m => y (ix2 t m)) w (s (ix2 t l)) i ⟨(l.val + 128 - (2 * k + off)) % 128, Nat.mod_lt _ (by decide)⟩)
  | 0, _, _ => by
    rw [Finset.sum_range_zero]
    show base (ix2 t l) = _ + 0#32
    rw [BitVec.add_zero]
  | n + 1, h, ho => by
    have ih := chain_at base y s yi idx t l w i hw hi hw' hi' off n (by omega) ho
    rw [Finset.sum_range_succ, BitVec.ofNat_add, ← BitVec.add_assoc, ← ih]
    show _ + step _ _ _ _ (ix2 t l) = _
    refine congrArg₂ _ rfl ?_
    have hk : 2 * n + off < 128 := by omega
    refine step_ind _ _ _ _ t l ⟨(l.val + 128 - (2 * n + off)) % 128, Nat.mod_lt _ (by decide)⟩ (fun m => y (ix2 t m)) w i ?_ (hw ⟨2 * n + off, hk⟩) hi (hw' _ (Nat.mod_lt _ (by decide))) hi'
    rw [dyn]
    refine congrArg (fun m => y (ix2 t m)) (Fin.ext ?_)
    show (l.val + 128 - (BitVec.ofNat 32 (2 * n + off)).toNat % 128) % 128 = (l.val + 128 - (2 * n + off)) % 128
    rw [BitVec.toNat_ofNat]
    omega

theorem sum_even_odd {M : Type} [AddCommMonoid M] (g : ℕ → M) : ∀ n : ℕ, ∑ k ∈ Finset.range (2 * n), g k = ∑ k ∈ Finset.range n, g (2 * k) + ∑ k ∈ Finset.range n, g (2 * k + 1)
  | 0 => by simp
  | n + 1 => by
    rw [show 2 * (n + 1) = 2 * n + 1 + 1 from rfl, Finset.sum_range_succ, Finset.sum_range_succ, sum_even_odd g n, Finset.sum_range_succ, Finset.sum_range_succ]
    abel

/-- The rotations by 0, by the even and by the odd numbers reach every lane once. -/
theorem rot_sum (f : Fin 128 → ℕ) (l : Fin 128) :
    (f l + ∑ k ∈ Finset.range 63, f ⟨(l.val + 128 - (2 * k + 2)) % 128, Nat.mod_lt _ (by decide)⟩)
      + ∑ k ∈ Finset.range 64, f ⟨(l.val + 128 - (2 * k + 1)) % 128, Nat.mod_lt _ (by decide)⟩ = ∑ m, f m := by
  set g : ℕ → ℕ := fun k => f ⟨(l.val + 128 - k) % 128, Nat.mod_lt _ (by decide)⟩ with hg
  have h1 : ∑ m, f m = ∑ k : Fin 128, g k.val := by
    refine (Fintype.sum_equiv (Equiv.subLeft l) _ _ fun k => ?_).symm
    refine congrArg f (Fin.ext ?_)
    show (l.val + 128 - k.val) % 128 = (l - k : Fin 128).val
    rw [Fin.sub_def]
    show _ = (128 - k.val + l.val) % 128
    have := k.isLt
    omega
  rw [h1, Fin.sum_univ_eq_sum_range g 128, sum_even_odd g 64, Finset.sum_range_succ' (fun k => g (2 * k)) 63]
  have h0 : f l = g (2 * 0) := congrArg f (Fin.ext (by have := l.isLt; show l.val = (l.val + 128 - 2 * 0) % 128; omega))
  rw [h0]
  show g (2 * 0) + ∑ k ∈ Finset.range 63, g (2 * k + 2) + ∑ k ∈ Finset.range 64, g (2 * k + 1) = ∑ k ∈ Finset.range 63, g (2 * (k + 1)) + g (2 * 0) + ∑ k ∈ Finset.range 64, g (2 * k + 1)
  rw [add_comm (g (2 * 0))]
  rfl

/-- The even blocks, the odd blocks and the new block. -/
theorem sum257 {M : Type} [AddCommMonoid M] (f : Fin 257 → M) :
    ∑ n, f n = (∑ m : Fin 128, f ⟨2 * m.val, by omega⟩) + (∑ m : Fin 128, f ⟨2 * m.val + 1, by omega⟩) + f ⟨256, by decide⟩ := by
  set g : ℕ → M := fun k => if h : k < 257 then f ⟨k, h⟩ else 0 with hg
  have hgf : ∀ k (h : k < 257), g k = f ⟨k, h⟩ := fun k h => dif_pos h
  have h1 : ∑ n, f n = ∑ n : Fin 257, g n.val := Finset.sum_congr rfl fun n _ => (hgf n.val n.isLt).symm
  rw [h1, Fin.sum_univ_eq_sum_range g 257, Finset.sum_range_succ, sum_even_odd g 128, ← Fin.sum_univ_eq_sum_range (fun k => g (2 * k)) 128, ← Fin.sum_univ_eq_sum_range (fun k => g (2 * k + 1)) 128, hgf 256 (by decide)]
  refine congrArg₂ _ (congrArg₂ _ (Finset.sum_congr rfl fun m _ => hgf _ (by omega)) (Finset.sum_congr rfl fun m _ => hgf _ (by omega))) rfl

open Classical in
theorem rank_sum (x : Fin 257 → EReal) (b : Fin 257) : Cert.Ssel.rank x b
    = (∑ m : Fin 128, ind (fun m => x ⟨2 * m.val, by omega⟩) (fun m => 2 * m) (x b) b.val m)
      + (∑ m : Fin 128, ind (fun m => x ⟨2 * m.val + 1, by omega⟩) (fun m => 2 * m + 1) (x b) b.val m)
      + (if x b < x ⟨256, by decide⟩ then 1 else 0) := by
  unfold Cert.Ssel.rank
  rw [Finset.card_filter, sum257]
  refine congrArg₂ _ (congrArg₂ _ (Finset.sum_congr rfl fun m _ => ?_) (Finset.sum_congr rfl fun m _ => ?_)) ?_
  · by_cases h : Cert.Ssel.ahead x ⟨2 * m.val, by omega⟩ b
    · exact (if_pos h).trans (if_pos h).symm
    · exact (if_neg h).trans (if_neg h).symm
  · by_cases h : Cert.Ssel.ahead x ⟨2 * m.val + 1, by omega⟩ b
    · exact (if_pos h).trans (if_pos h).symm
    · exact (if_neg h).trans (if_neg h).symm
  · by_cases h : x b < x ⟨256, by decide⟩
    · exact (if_pos (Or.inl h)).trans (if_pos h).symm
    · refine (if_neg ?_).trans (if_neg h).symm
      rintro (h' | ⟨_, h'⟩)
      · exact h h'
      · exact absurd (show 256 < b.val from h') (by omega)

theorem rank_lt (x : Fin 257 → EReal) (b : Fin 257) : Cert.Ssel.rank x b < 2 ^ 20 := by
  refine lt_of_le_of_lt (Finset.card_le_univ _) ?_
  simp

theorem six0 (A B C D E G : ℕ) : BitVec.ofNat 32 A + BitVec.ofNat 32 B + BitVec.ofNat 32 C + BitVec.ofNat 32 D + (BitVec.ofNat 32 E + BitVec.ofNat 32 G)
    = BitVec.ofNat 32 ((0 + B + E) + (C + D + G) + A) := by
  simp only [← BitVec.ofNat_add]
  exact congrArg (BitVec.ofNat 32) (by omega)

theorem six1 (A B C D E G : ℕ) : BitVec.ofNat 32 A + BitVec.ofNat 32 B + BitVec.ofNat 32 C + BitVec.ofNat 32 D + (BitVec.ofNat 32 E + BitVec.ofNat 32 G)
    = BitVec.ofNat 32 ((B + C + E) + (0 + D + G) + A) := by
  simp only [← BitVec.ofNat_add]
  exact congrArg (BitVec.ofNat 32) (by omega)

section
variable (a b : FVec Ideal S8x128 .f32) (n : FVec Ideal S8x1 .f32) (x : Fin 257 → EReal) (t : Fin 8)
  (ha : ∀ l : Fin 128, a (ix2 t l) = x ⟨2 * l.val, by omega⟩) (hb : ∀ l : Fin 128, b (ix2 t l) = x ⟨2 * l.val + 1, by omega⟩)
  (hn : n (ix2 t 0) = x ⟨256, by decide⟩)
include ha hb hn

theorem sel0_at (l : Fin 128) : sel0 a b n (ix2 t l) = BitVec.ofBool (decide (Cert.Ssel.rank x ⟨2 * l.val, by omega⟩ < 16)) := by
  have h : sel0 a b n (ix2 t l) = IntOp.cmpi .slt (BitVec.ofNat 32 (Cert.Ssel.rank x ⟨2 * l.val, by omega⟩)) 16#32 := by
    unfold sel0
    show IntOp.cmpi .slt (IntOp.addi (_ : BitVec 32) (_ : BitVec 32)) 16#32 = _
    refine congrArg (fun v => IntOp.cmpi .slt v 16#32) ?_
    show (chain _ _ _ _ _ _ _ (ix2 t l) + chain _ _ _ _ _ _ _ (ix2 t l) : BitVec 32) = _
    have A := fun base off k h1 h2 => chain_at base a a yi0 k0_pay2 t l (fun m => 2 * m) (2 * l.val) (fun k => yi0_at k l) (pay2 l) (fun m hm => by omega) (by omega) off k h1 h2
    have B := fun base off k h1 h2 => chain_at base b a yi1 k0_pay2 t l (fun m => 2 * m + 1) (2 * l.val) (fun k => yi1_at k l) (pay2 l) (fun m hm => by omega) (by omega) off k h1 h2
    rw [B _ 2 63 (by decide) (by decide), B _ 1 64 (by decide) (by decide), A _ 1 64 (by decide) (by decide)]
    show chain _ _ _ _ _ _ _ (ix2 t l) + step _ _ _ _ (ix2 t l) + _ + (0#32 + _ + _) = _
    rw [A _ 2 63 (by decide) (by decide), newAhead_at, step_ind b a (yi1 0#32) k0_pay2 t l l (fun m => b (ix2 t m)) (fun m => 2 * m + 1) (2 * l.val) rfl
      ((yi1_at 0 l).trans (by show BitVec.ofNat 32 (2 * ((l.val + 128 - 0) % 128) + 1) = _; congr 3; omega)) (pay2 l) (by show 2 * l.val + 1 < 257; omega) (by omega)]
    rw [show (fun m => a (ix2 t m)) = (fun m : Fin 128 => x ⟨2 * m.val, by omega⟩) from funext ha, show (fun m => b (ix2 t m)) = (fun m : Fin 128 => x ⟨2 * m.val + 1, by omega⟩) from funext hb, ha l, hn]
    rw [rank_sum, ← rot_sum (ind (fun m => x ⟨2 * m.val, by omega⟩) (fun m => 2 * m) _ _) l, ← rot_sum (ind (fun m => x ⟨2 * m.val + 1, by omega⟩) (fun m => 2 * m + 1) _ _) l]
    have hz : ind (fun m => x ⟨2 * m.val, by omega⟩) (fun m => 2 * m) (x ⟨2 * l.val, by omega⟩) (2 * l.val) l = 0 := by
      unfold ind; exact if_neg (by simp)
    rw [hz]
    rw [show (if x ⟨2 * l.val, _⟩ < x ⟨256, _⟩ then 1#32 else 0#32 : BitVec 32) = BitVec.ofNat 32 (if x ⟨2 * l.val, by omega⟩ < x ⟨256, by decide⟩ then 1 else 0) from by split <;> rfl]
    rw [BitVec.zero_add]
    exact six0 _ _ _ _ _ _
  rw [h, slt_small _ 16 (rank_lt _ _) (by decide)]

theorem sel1_at (l : Fin 128) : sel1 a b n (ix2 t l) = BitVec.ofBool (decide (Cert.Ssel.rank x ⟨2 * l.val + 1, by omega⟩ < 16)) := by
  have h : sel1 a b n (ix2 t l) = IntOp.cmpi .slt (BitVec.ofNat 32 (Cert.Ssel.rank x ⟨2 * l.val + 1, by omega⟩)) 16#32 := by
    unfold sel1
    show IntOp.cmpi .slt (IntOp.addi (_ : BitVec 32) (_ : BitVec 32)) 16#32 = _
    refine congrArg (fun v => IntOp.cmpi .slt v 16#32) ?_
    show (chain _ _ _ _ _ _ _ (ix2 t l) + chain _ _ _ _ _ _ _ (ix2 t l) : BitVec 32) = _
    have A := fun base off k h1 h2 => chain_at base a b yi0 k0_pay3 t l (fun m => 2 * m) (2 * l.val + 1) (fun k => yi0_at k l) (pay3 l) (fun m hm => by omega) (by omega) off k h1 h2
    have B := fun base off k h1 h2 => chain_at base b b yi1 k0_pay3 t l (fun m => 2 * m + 1) (2 * l.val + 1) (fun k => yi1_at k l) (pay3 l) (fun m hm => by omega) (by omega) off k h1 h2
    rw [B _ 2 63 (by decide) (by decide), B _ 1 64 (by decide) (by decide), A _ 1 64 (by decide) (by decide), A _ 2 63 (by decide) (by decide)]
    show newAhead _ _ (ix2 t l) + step _ _ _ _ (ix2 t l) + _ + _ + (0#32 + _ + _) = _
    rw [newAhead_at, step_ind a b (yi0 0#32) k0_pay3 t l l (fun m => a (ix2 t m)) (fun m => 2 * m) (2 * l.val + 1) rfl
      ((yi0_at 0 l).trans (by show BitVec.ofNat 32 (2 * ((l.val + 128 - 0) % 128)) = _; congr 2; omega)) (pay3 l) (by show 2 * l.val < 257; omega) (by omega)]
    rw [show (fun m => a (ix2 t m)) = (fun m : Fin 128 => x ⟨2 * m.val, by omega⟩) from funext ha, show (fun m => b (ix2 t m)) = (fun m : Fin 128 => x ⟨2 * m.val + 1, by omega⟩) from funext hb, hb l, hn]
    rw [rank_sum, ← rot_sum (ind (fun m => x ⟨2 * m.val, by omega⟩) (fun m => 2 * m) _ _) l, ← rot_sum (ind (fun m => x ⟨2 * m.val + 1, by omega⟩) (fun m => 2 * m + 1) _ _) l]
    have hz : ind (fun m => x ⟨2 * m.val + 1, by omega⟩) (fun m => 2 * m + 1) (x ⟨2 * l.val + 1, by omega⟩) (2 * l.val + 1) l = 0 := by
      unfold ind; exact if_neg (by simp)
    rw [hz]
    rw [show (if x ⟨2 * l.val + 1, _⟩ < x ⟨256, _⟩ then 1#32 else 0#32 : BitVec 32) = BitVec.ofNat 32 (if x ⟨2 * l.val + 1, by omega⟩ < x ⟨256, by decide⟩ then 1 else 0) from by split <;> rfl]
    rw [BitVec.zero_add]
    exact six1 _ _ _ _ _ _
  rw [h, slt_small _ 16 (rank_lt _ _) (by decide)]

end

end Cert.KernelIdeal.Words
-- ==== Proof.SselSpec.lean ====
module

public import Idealize.ShloMosaic.Lib.Pipeline.ValueKit

@[expose] public section

noncomputable section

/-! Selection by compressed attention, row by row: the weights of one query over 256 past block summaries and the new one, and the scores. -/

namespace Cert.Ssel

open Idealize.ShloMosaic

/-- The distance of token `t` of the chunk to the last position of block `n`. -/
def dist (t n : ℕ) : EReal := FloatOps.sitofp (F := Ideal) .f32 (IntOp.subi (IntOp.addi (16384#32) (BitVec.ofNat 32 t))
  (IntOp.subi (IntOp.muli (IntOp.addi (BitVec.ofNat 32 n) 1#32) 64#32) 1#32))

section
variable (q : Fin 64 → EReal) (K V : Fin 257 → Fin 64 → EReal) (s : EReal) (t : ℕ)

/-- The masked score. -/
def msc (n : Fin 257) : EReal := if 0 ≤ dist t n.val then (∑ d, q d * K n d) - s * dist t n.val else Ideal.ofBits .f32 4048155338#32

/-- The greatest masked score. -/
def mx : EReal := Finset.fold max (Ideal.ofBits .f32 4286578688#32) (msc q K s t) Finset.univ

/-- The unnormalised weight. -/
def ex (n : Fin 257) : EReal := if 0 ≤ dist t n.val then Ideal.exp (msc q K s t n - mx q K s t) else 0

/-- The divisor of the weights. -/
def den : EReal := max (∑ n, ex q K s t n) (Ideal.ofBits .f32 228737632#32)

/-- The weight. -/
def w (n : Fin 257) : EReal := Ideal.div (ex q K s t n) (den q K s t)

/-- The attention output. -/
def out (d : Fin 64) : EReal := ∑ n, w q K s t n * V n d
end

/-- The final score of block `n` of pooled weight `p`. -/
def fs (n : ℕ) (p : EReal) : EReal := Scalar.select (IntOp.cmpi .sgt (BitVec.ofNat 32 n) 256#32) (Ideal.ofBits .f32 3212836864#32)
  (Scalar.select (IntOp.ori (IntOp.ori (IntOp.cmpi .eq (BitVec.ofNat 32 n) 0#32) (IntOp.cmpi .eq (BitVec.ofNat 32 n) 256#32))
    (IntOp.cmpi .eq (BitVec.ofNat 32 n) (IntOp.subi 256#32 1#32))) (Ideal.ofBits .f32 1084227584#32) p)

/-- The slope of head `h`. -/
def slope (h : ℕ) : EReal := (((1 / 2 : ℝ) ^ (h + 1) : ℝ) : EReal)

theorem eps_pos : (0 : EReal) < Ideal.ofBits .f32 228737632#32 := by
  have h : Ideal.ofBits .f32 228737632#32 = (((10633824 : ℝ) * 2 ^ (-123 : ℤ) : ℝ) : EReal) := by
    simp [Ideal.ofBits, Ideal.ieee, -EReal.coe_mul]
  rw [h]
  exact_mod_cast (by positivity : (0 : ℝ) < (10633824 : ℝ) * 2 ^ (-123 : ℤ))

theorem div_eq (e : EReal) (q : Fin 64 → EReal) (K : Fin 257 → Fin 64 → EReal) (s : EReal) (t : ℕ) :
    Ideal.div e (den q K s t) = e * Ideal.div 1 (den q K s t) := by
  have h : den q K s t ≠ 0 := (lt_of_lt_of_le eps_pos (le_max_right _ _)).ne'
  unfold Ideal.div
  rw [if_neg h, if_neg h, one_mul]

end Cert.Ssel
-- ==== Proof.SselKer.lean ====
module

public import proofs.«01_k».proof.Proof.SselRank
public import proofs.«01_k».proof.Proof.SselSpec

@[expose] public section

set_option maxRecDepth 20000

noncomputable section

/-! The kernel's words, row by row. -/

namespace Cert.KernelIdeal.Words

open Cert.KernelIdeal Cert.KernelIdeal.Gen Idealize.ShloMosaic Idealize.ShloMosaic.TcCoe Idealize.SL.Sem

theorem pay6 : ∀ t : Fin 8, k0_pay6 (ix2 t 0) = 256#32 := by decide +kernel
theorem pos_at : ∀ r : Fin 32, pos (ix2 r 0) = IntOp.addi (16384#32) (BitVec.ofNat 32 (r.val % 8)) := by decide +kernel
theorem pay5 (l : Fin 128) : k0_pay5 (ix2 0 l) = if l.val = 0 then 1#1 else 0#1 := by
  revert l; decide +kernel
theorem pay4 : k0_pay4 (ix2 0 0) = 256#32 := by decide +kernel

theorem pay18_at (r : Fin 32) (l : Fin 128) : k0_pay18 (F := Ideal) k0_pay2 pos (ix2 r l) = Cert.Ssel.dist (r.val % 8) (2 * l.val) := by
  have h2 := pay2 l
  have hp := pos_at r
  unfold k0_pay18 Cert.Ssel.dist
  generalize k0_pay2 = z at h2
  generalize pos = p at hp
  rw [← h2, ← hp]
  pointwise []

theorem pay21_at (r : Fin 32) (l : Fin 128) : k0_pay21 (F := Ideal) k0_pay3 pos (ix2 r l) = Cert.Ssel.dist (r.val % 8) (2 * l.val + 1) := by
  have h2 := pay3 l
  have hp := pos_at r
  unfold k0_pay21 Cert.Ssel.dist
  generalize k0_pay3 = z at h2
  generalize pos = p at hp
  rw [← h2, ← hp]
  pointwise []

theorem dist_new (t : Fin 8) : ¬ 0 ≤ Cert.Ssel.dist t.val 256 := by
  have h : ∀ t : Fin 8, (IntOp.subi (IntOp.addi (16384#32) (BitVec.ofNat 32 t.val))
    (IntOp.subi (IntOp.muli (IntOp.addi (BitVec.ofNat 32 256) 1#32) 64#32) 1#32)).toInt < 0 := by decide +kernel
  show ¬ (0 : EReal) ≤ (((((IntOp.subi _ _ : BitVec 32).toInt : ℤ) : ℝ)) : EReal)
  have h' : (((IntOp.subi (IntOp.addi (16384#32) (BitVec.ofNat 32 t.val))
    (IntOp.subi (IntOp.muli (IntOp.addi (BitVec.ofNat 32 256) 1#32) 64#32) 1#32)).toInt : ℤ) : ℝ) < 0 := by exact_mod_cast h t
  exact not_le.mpr (by exact_mod_cast h')

theorem pay24_at (r : Fin 32) : k0_pay24 (F := Ideal) k0_pay4 pos (ix2 r 0) = Cert.Ssel.dist (r.val % 8) 256 := by
  have h2 := pay4
  have hp := pos_at r
  unfold k0_pay24 Cert.Ssel.dist
  generalize k0_pay4 = z at h2
  generalize pos = p at hp
  rw [show BitVec.ofNat 32 256 = 256#32 from rfl, ← h2, ← hp]
  pointwise []

theorem pay25_at (r : Fin 32) (l : Fin 128) : k0_pay25 (F := Ideal) k0_pay4 k0_pay5 pos (ix2 r l) = 0#1 := by
  have h : k0_pay25 (F := Ideal) k0_pay4 k0_pay5 pos (ix2 r l) = IntOp.andi (BitVec.ofBool (decide (0 ≤ k0_pay24 (F := Ideal) k0_pay4 pos (ix2 r l)))) (k0_pay5 (ix2 0 l)) := by
    unfold k0_pay25
    generalize k0_pay5 = z
    pointwise []
  rw [h, pay5]
  by_cases hl : l.val = 0
  · obtain rfl : l = 0 := Fin.ext hl
    rw [pay24_at, decide_eq_false (dist_new ⟨r.val % 8, Nat.mod_lt _ (by decide)⟩)]
    rfl
  · rw [if_neg hl]
    exact BitVec.and_zero

section group
variable (q : FVec Ideal S32x64 .bf16) (sl : FVec Ideal S32x1 .f32) (ck cv : FVec Ideal S128x128 .bf16)
  (kn : Vec Ideal S1x1x1x1x128 .f32) (vn : FVec Ideal S1x64 .f32) (r : Fin 32)

/-- The queries of a row. -/
def kq (d : Fin 64) : EReal := q (ix2 r d)

/-- The past rows, two to a row of 128, and the new one. -/
def kk (c : FVec Ideal S128x128 .bf16) (n : Fin 64 → EReal) (m : Fin 257) (d : Fin 64) : EReal :=
  if h : m.val < 256 then c (ix2 (⟨m.val / 2, by omega⟩ : Fin 128) (⟨m.val % 2 * 64 + d.val, by omega⟩ : Fin 128)) else n d

variable (nk nv : Fin 64 → EReal)

theorem kk_even (c : FVec Ideal S128x128 .bf16) (n : Fin 64 → EReal) (l : Fin 128) (d : Fin 64) : kk c n ⟨2 * l.val, by omega⟩ d = c (ix2 l (⟨d.val, by omega⟩ : Fin 128)) := by
  unfold kk
  rw [dif_pos (show 2 * l.val < 256 by omega)]
  refine congrArg₂ (fun (u v : Fin 128) => c (ix2 u v)) (Fin.ext ?_) (Fin.ext ?_)
  · show 2 * l.val / 2 = l.val
    omega
  · show 2 * l.val % 2 * 64 + d.val = d.val
    omega

theorem kk_odd (c : FVec Ideal S128x128 .bf16) (n : Fin 64 → EReal) (l : Fin 128) (d : Fin 64) : kk c n ⟨2 * l.val + 1, by omega⟩ d = c (ix2 l (⟨64 + d.val, by omega⟩ : Fin 128)) := by
  unfold kk
  rw [dif_pos (show 2 * l.val + 1 < 256 by omega)]
  refine congrArg₂ (fun (u v : Fin 128) => c (ix2 u v)) (Fin.ext ?_) (Fin.ext ?_)
  · show (2 * l.val + 1) / 2 = l.val
    omega
  · show (2 * l.val + 1) % 2 * 64 + d.val = 64 + d.val
    omega

/-- The even blocks' masked scores. -/
theorem pay20_at (l : Fin 128) : k0_pay20 k0_pay2 q sl pos ck (ix2 r l)
    = Cert.Ssel.msc (kq q r) (kk ck nk) (sl (ix2 r 0)) (r.val % 8) ⟨2 * l.val, by omega⟩ := by
  have hd := pay18_at r l
  have h19 : k0_pay19 (F := Ideal) k0_pay2 pos (ix2 r l) = BitVec.ofBool (decide (0 ≤ k0_pay18 (F := Ideal) k0_pay2 pos (ix2 r l))) := by
    unfold k0_pay19
    pointwise []
  unfold k0_pay20 Cert.Ssel.msc
  generalize k0_pay18 (F := Ideal) k0_pay2 pos = d at hd h19
  generalize k0_pay19 (F := Ideal) k0_pay2 pos = m at h19
  simp only [kk_even]
  rw [← hd]
  unfold kq
  pointwise [h19]

/-- The odd blocks' masked scores. -/
theorem pay23_at (l : Fin 128) : k0_pay23 sl (k0_pay16 q ck) (k0_pay21 k0_pay3 pos) (ix2 r l)
    = Cert.Ssel.msc (kq q r) (kk ck nk) (sl (ix2 r 0)) (r.val % 8) ⟨2 * l.val + 1, by omega⟩ := by
  have hd := pay21_at r l
  have h19 : ∀ y : FVec Ideal S32x128 .f32, k0_pay22 y (ix2 r l) = BitVec.ofBool (decide (0 ≤ y (ix2 r l))) := fun y => by
    unfold k0_pay22
    pointwise []
  have h16 : k0_pay16 q ck (ix2 r l) = ∑ d : Fin 64, q (ix2 r d) * ck (ix2 l (⟨64 + d.val, by omega⟩ : Fin 128)) := by
    unfold k0_pay16
    pointwise []
  unfold k0_pay23 Cert.Ssel.msc
  simp only [kk_odd]
  generalize k0_pay21 (F := Ideal) k0_pay3 pos = d at hd
  have h19 := h19 d
  generalize k0_pay22 d = m at h19
  rw [← hd]
  unfold kq
  rw [← h16]
  pointwise [h19]

theorem pay26_at (x : FVec Ideal S32x128 .f32) (l : Fin 128) : k0_pay26 k0_pay4 k0_pay5 sl pos x (ix2 r l) = Ideal.ofBits .f32 4048155338#32 := by
  have h25 := pay25_at r l
  unfold k0_pay26
  generalize k0_pay25 (F := Ideal) k0_pay4 k0_pay5 pos = m at h25
  generalize k0_pay24 (F := Ideal) k0_pay4 pos = z
  pointwise [h25]

theorem msc_new : Cert.Ssel.msc (kq q r) (kk ck nk) (sl (ix2 r 0)) (r.val % 8) ⟨256, by decide⟩ = Ideal.ofBits .f32 4048155338#32 :=
  if_neg (dist_new ⟨r.val % 8, Nat.mod_lt _ (by decide)⟩)

theorem ex_new : Cert.Ssel.ex (kq q r) (kk ck nk) (sl (ix2 r 0)) (r.val % 8) ⟨256, by decide⟩ = 0 :=
  if_neg (dist_new ⟨r.val % 8, Nat.mod_lt _ (by decide)⟩)

theorem pay27_at (x : FVec Ideal S32x128 .f32) : k0_pay27 k0_pay4 k0_pay5 sl pos (k0_pay16 q ck) x (k0_pay20 k0_pay2 q sl pos ck) (k0_pay21 k0_pay3 pos) (ix2 r 0)
    = Cert.Ssel.mx (kq q r) (kk ck nk) (sl (ix2 r 0)) (r.val % 8) := by
  have h0 := fun l => pay20_at q sl ck r nk l
  have h1 := fun l => pay23_at q sl ck r nk l
  have h2 := fun l => pay26_at sl r x l
  have hn := msc_new q sl ck r nk
  unfold k0_pay27 Cert.Ssel.mx
  generalize k0_pay20 k0_pay2 q sl pos ck = a at h0
  generalize k0_pay23 sl (k0_pay16 q ck) (k0_pay21 k0_pay3 pos) = b at h1
  generalize k0_pay26 k0_pay4 k0_pay5 sl pos x = c at h2
  generalize Cert.Ssel.msc (kq q r) (kk ck nk) (sl (ix2 r 0)) (r.val % 8) = f at h0 h1 hn
  pointwise []
  have hf : ∀ n, f n ≤ Finset.fold max (Ideal.ofBits .f32 4286578688#32) f Finset.univ := fun n =>
    (Finset.le_fold_max (b := Ideal.ofBits .f32 4286578688#32) (f := f) (s := Finset.univ) (f n)).mpr (.inr ⟨n, Finset.mem_univ _, le_rfl⟩)
  have hb : Ideal.ofBits .f32 4286578688#32 ≤ Finset.fold max (Ideal.ofBits .f32 4286578688#32) f Finset.univ :=
    (Finset.le_fold_max _).mpr (.inl le_rfl)
  refine le_antisymm (max_le (max_le ?_ ?_) ?_) ?_
  · exact (Finset.fold_max_le _).mpr ⟨hb, fun l _ => (h0 l).trans_le (hf _)⟩
  · exact (Finset.fold_max_le _).mpr ⟨hb, fun l _ => (h1 l).trans_le (hf _)⟩
  · exact (Finset.fold_max_le _).mpr ⟨hb, fun l _ => ((h2 l).trans hn.symm).trans_le (hf _)⟩
  · refine (Finset.fold_max_le _).mpr ⟨?_, fun n _ => ?_⟩
    · exact ((Finset.le_fold_max _).mpr (.inl le_rfl)).trans ((le_max_left _ _).trans (le_max_left _ _))
    · by_cases hN : n.val < 256
      · by_cases he : n.val % 2 = 0
        · refine le_trans ((Finset.le_fold_max _).mpr (.inr ⟨(⟨n.val / 2, by omega⟩ : Fin 128), Finset.mem_univ _, le_of_eq ?_⟩)) ((le_max_left _ _).trans (le_max_left _ _))
          rw [h0]
          exact congrArg f (Fin.ext (by show n.val = 2 * (n.val / 2); omega))
        · refine le_trans ((Finset.le_fold_max _).mpr (.inr ⟨(⟨n.val / 2, by omega⟩ : Fin 128), Finset.mem_univ _, le_of_eq ?_⟩)) ((le_max_right _ _).trans (le_max_left _ _))
          rw [h1]
          exact congrArg f (Fin.ext (by show n.val = 2 * (n.val / 2) + 1; omega))
      · refine le_trans ((Finset.le_fold_max _).mpr (.inr ⟨(0 : Fin 128), Finset.mem_univ _, le_of_eq ?_⟩)) (le_max_right _ _)
        rw [h2, ← hn]
        exact congrArg f (Fin.ext (by show n.val = 256; omega))

theorem e0_at (l : Fin 128) : e0 q sl ck kn (ix2 r l) = Cert.Ssel.ex (kq q r) (kk ck nk) (sl (ix2 r 0)) (r.val % 8) ⟨2 * l.val, by omega⟩ := by
  have h0 := pay20_at q sl ck r nk l
  have h27 := pay27_at q sl ck r nk (k0_pay17 q kn)
  have hd := pay18_at r l
  have h19 : k0_pay19 (F := Ideal) k0_pay2 pos (ix2 r l) = BitVec.ofBool (decide (0 ≤ k0_pay18 (F := Ideal) k0_pay2 pos (ix2 r l))) := by
    unfold k0_pay19
    pointwise []
  unfold e0 k0_pay28 Cert.Ssel.ex
  rw [← h0, ← h27, ← hd]
  generalize k0_pay27 k0_pay4 k0_pay5 sl pos (k0_pay16 q ck) (k0_pay17 q kn) (k0_pay20 k0_pay2 q sl pos ck) (k0_pay21 k0_pay3 pos) = z
  generalize k0_pay20 k0_pay2 q sl pos ck = a
  generalize k0_pay18 (F := Ideal) k0_pay2 pos = d at h19
  generalize k0_pay19 (F := Ideal) k0_pay2 pos = m at h19
  pointwise [h19]

theorem e1_at (l : Fin 128) : e1 q sl ck kn (ix2 r l) = Cert.Ssel.ex (kq q r) (kk ck nk) (sl (ix2 r 0)) (r.val % 8) ⟨2 * l.val + 1, by omega⟩ := by
  have h0 := pay23_at q sl ck r nk l
  have h27 := pay27_at q sl ck r nk (k0_pay17 q kn)
  have hd := pay21_at r l
  have h19 : ∀ y : FVec Ideal S32x128 .f32, k0_pay22 y (ix2 r l) = BitVec.ofBool (decide (0 ≤ y (ix2 r l))) := fun y => by
    unfold k0_pay22
    pointwise []
  have h19 := h19 (k0_pay21 k0_pay3 pos)
  unfold e1 k0_pay29 Cert.Ssel.ex
  rw [← h0, ← h27, ← hd]
  generalize k0_pay27 k0_pay4 k0_pay5 sl pos (k0_pay16 q ck) (k0_pay17 q kn) (k0_pay20 k0_pay2 q sl pos ck) (k0_pay21 k0_pay3 pos) = z
  generalize k0_pay23 sl (k0_pay16 q ck) (k0_pay21 k0_pay3 pos) = a
  generalize k0_pay22 (k0_pay21 (F := Ideal) k0_pay3 pos) = m at h19
  generalize k0_pay21 (F := Ideal) k0_pay3 pos = d at h19
  pointwise [h19]

theorem pay31_at (x : FVec Ideal S32x128 .f32) (l : Fin 128) : k0_pay31 (k0_pay25 (F := Ideal) k0_pay4 k0_pay5 pos) x (FloatOps.ofBits .f32 0#32) (ix2 r l) = 0 := by
  have h25 := pay25_at r l
  unfold k0_pay31
  generalize k0_pay25 (F := Ideal) k0_pay4 k0_pay5 pos = m at h25
  pointwise [h25]

theorem pay32_at : k0_pay32 (k0_pay25 (F := Ideal) k0_pay4 k0_pay5 pos) (e0 q sl ck kn) (e1 q sl ck kn) (e2 q sl ck kn) (FloatOps.ofBits .f32 0#32) (ix2 r 0)
    = Ideal.div 1 (Cert.Ssel.den (kq q r) (kk ck nk) (sl (ix2 r 0)) (r.val % 8)) := by
  have h0 := fun l => e0_at q sl ck kn r nk l
  have h1 := fun l => e1_at q sl ck kn r nk l
  have h2 := fun l => pay31_at r (e2 q sl ck kn) l
  have hn := ex_new q sl ck r nk
  unfold k0_pay32 Cert.Ssel.den
  rw [sum257, hn]
  simp only [← h0, ← h1]
  generalize k0_pay31 (k0_pay25 (F := Ideal) k0_pay4 k0_pay5 pos) (e2 q sl ck kn) (FloatOps.ofBits .f32 0#32) = z at h2
  generalize e0 q sl ck kn = a
  generalize e1 q sl ck kn = b
  pointwise []
  have hz : ∑ l : Fin 128, z (ix2 r l) = 0 := Finset.sum_eq_zero fun l _ => h2 l
  rw [hz, add_zero]

theorem p0_at (l : Fin 128) : p0 q sl ck kn (ix2 r l) = Cert.Ssel.w (kq q r) (kk ck nk) (sl (ix2 r 0)) (r.val % 8) ⟨2 * l.val, by omega⟩ := by
  have h32 := pay32_at q sl ck kn r nk
  have h0 := e0_at q sl ck kn r nk l
  unfold Cert.Ssel.w
  rw [Cert.Ssel.div_eq, ← h32, ← h0]
  unfold p0 k0_pay33
  generalize k0_pay32 (k0_pay25 (F := Ideal) k0_pay4 k0_pay5 pos) (e0 q sl ck kn) (e1 q sl ck kn) (e2 q sl ck kn) (FloatOps.ofBits .f32 0#32) = z
  generalize e0 q sl ck kn = a
  pointwise []

theorem p1_at (l : Fin 128) : p1 q sl ck kn (ix2 r l) = Cert.Ssel.w (kq q r) (kk ck nk) (sl (ix2 r 0)) (r.val % 8) ⟨2 * l.val + 1, by omega⟩ := by
  have h32 := pay32_at q sl ck kn r nk
  have h0 := e1_at q sl ck kn r nk l
  unfold Cert.Ssel.w
  rw [Cert.Ssel.div_eq, ← h32, ← h0]
  unfold p1 k0_pay34
  generalize k0_pay32 (k0_pay25 (F := Ideal) k0_pay4 k0_pay5 pos) (e0 q sl ck kn) (e1 q sl ck kn) (e2 q sl ck kn) (FloatOps.ofBits .f32 0#32) = z
  generalize e1 q sl ck kn = a
  pointwise []

theorem w_new : Cert.Ssel.w (kq q r) (kk ck nk) (sl (ix2 r 0)) (r.val % 8) ⟨256, by decide⟩ = 0 := by
  unfold Cert.Ssel.w
  rw [Cert.Ssel.div_eq, ex_new, zero_mul]

theorem p2_at (l : Fin 128) : p2 q sl ck kn (ix2 r l) = 0 := by
  have h2 := pay31_at r (e2 q sl ck kn) l
  unfold p2 k0_pay35
  generalize k0_pay32 (k0_pay25 (F := Ideal) k0_pay4 k0_pay5 pos) (e0 q sl ck kn) (e1 q sl ck kn) (e2 q sl ck kn) (FloatOps.ofBits .f32 0#32) = y
  generalize k0_pay31 (k0_pay25 (F := Ideal) k0_pay4 k0_pay5 pos) (e2 q sl ck kn) (FloatOps.ofBits .f32 0#32) = z at h2
  pointwise [h2]
  simp only [zero_mul, add_zero]

/-- The kernel's output of a row, before the gate. -/
theorem oc_at (d : Fin 64) : oc q sl ck cv kn vn (ix2 r d) = Cert.Ssel.out (kq q r) (kk ck nk) (kk cv nv) (sl (ix2 r 0)) (r.val % 8) d := by
  have h0 := fun l => p0_at q sl ck kn r nk l
  have h1 := fun l => p1_at q sl ck kn r nk l
  have h2 := p2_at q sl ck kn r 0
  have hn := w_new q sl ck r nk
  unfold Cert.Ssel.out
  rw [sum257, hn, zero_mul]
  simp only [← h0, ← h1, kk_even, kk_odd]
  unfold p0 p1 p2 at *
  unfold oc k0_pay36
  generalize k0_pay33 (k0_pay25 (F := Ideal) k0_pay4 k0_pay5 pos) (e0 q sl ck kn) (e1 q sl ck kn) (e2 q sl ck kn) (FloatOps.ofBits .f32 0#32) = a
  generalize k0_pay34 (k0_pay25 (F := Ideal) k0_pay4 k0_pay5 pos) (e0 q sl ck kn) (e1 q sl ck kn) (e2 q sl ck kn) (FloatOps.ofBits .f32 0#32) = b
  generalize k0_pay35 (k0_pay25 (F := Ideal) k0_pay4 k0_pay5 pos) (e0 q sl ck kn) (e1 q sl ck kn) (e2 q sl ck kn) (FloatOps.ofBits .f32 0#32) = c at h2
  pointwise [h2]
  simp only [zero_mul, add_zero]

end group

section scores
variable (q : FVec Ideal S32x64 .bf16) (sl : FVec Ideal S32x1 .f32) (ck cv : FVec Ideal S128x128 .bf16)
  (kn : Vec Ideal S1x1x1x1x128 .f32) (t : Fin 8) (f : Fin 257 → EReal)

theorem s0_at (l : Fin 128) : s0 q sl ck kn (ix2 t l) = Cert.Ssel.fs (2 * l.val)
    (∑ h : Fin 4, p0 q sl ck kn (ix2 (⟨h.val * 8 + t.val, by omega⟩ : Fin 32) l)) := by
  have h2 := pay2 l
  have h6 := pay6 t
  unfold s0 k0_pay44 k0_pay43 k0_pay42 Cert.Ssel.fs
  generalize p0 q sl ck kn = p
  generalize k0_pay2 = z at h2
  generalize k0_pay6 = y at h6
  rw [Fin.sum_univ_four, ← h2, ← h6]
  pointwise []

theorem s1_at (l : Fin 128) : s1 q sl ck kn (ix2 t l) = Cert.Ssel.fs (2 * l.val + 1)
    (∑ h : Fin 4, p1 q sl ck kn (ix2 (⟨h.val * 8 + t.val, by omega⟩ : Fin 32) l)) := by
  have h2 := pay3 l
  have h6 := pay6 t
  unfold s1 k0_pay45 Cert.Ssel.fs
  generalize p1 q sl ck kn = p
  generalize k0_pay3 = z at h2
  generalize k0_pay6 = y at h6
  rw [Fin.sum_univ_four, ← h2, ← h6]
  pointwise []

theorem sn_at : sn q sl ck kn (ix2 t 0) = Cert.Ssel.fs 256 0 := by
  have h4 := pay4
  have h5 := pay5 0
  have h6 := pay6 t
  have hp := fun r => p2_at q sl ck kn r 0
  unfold sn k0_pay49 k0_pay48 k0_pay47 k0_pay46 Cert.Ssel.fs
  generalize p2 q sl ck kn = p at hp
  generalize k0_pay4 = z at h4
  generalize k0_pay5 = x at h5
  generalize k0_pay6 = y at h6
  pointwise [h4, h5, h6, hp]

end scores

end Cert.KernelIdeal.Words
-- ==== Proof.SselLoads.lean ====
module

public import proofs.«01_k».proof.Proof.SselKer
public import Idealize.ShloMosaic.Lib.WholeRead

@[expose] public section

set_option maxRecDepth 20000

noncomputable section

/-! The operands of the two head groups, read from the blocks. -/

namespace Cert.KernelIdeal.Words

open Cert.KernelIdeal Cert.KernelIdeal.Gen Idealize.ShloMosaic Idealize.ShloMosaic.TcCoe Idealize.SL.Sem

theorem pay7_at (a0 a1 a2 a3 : Vec Ideal S1x8x64 .f32) (h : Fin 4) (t : Fin 8) (d : Fin 64) :
    k0_pay7 a0 a1 a2 a3 (ix2 ⟨h.val * 8 + t.val, by omega⟩ d) = (![a0, a1, a2, a3] h) (ix3 0 t d) := by
  unfold k0_pay7
  pointwise []
  match h with
  | 0 =>
    rw [dif_pos (show (0 : Fin 4).val * 8 + t.val < 8 by show 0 * 8 + t.val < 8; omega)]
    exact congrArg (fun r => a0 (ix3 0 r d)) (Fin.ext (by show 0 * 8 + t.val = t.val; omega))
  | 1 =>
    rw [dif_neg (show ¬ (1 : Fin 4).val * 8 + t.val < 8 by show ¬ 1 * 8 + t.val < 8; omega), dif_pos (show (1 : Fin 4).val * 8 + t.val - 8 < 8 by show 1 * 8 + t.val - 8 < 8; omega)]
    exact congrArg (fun r => a1 (ix3 0 r d)) (Fin.ext (by show 1 * 8 + t.val - 8 = t.val; omega))
  | 2 =>
    rw [dif_neg (show ¬ (2 : Fin 4).val * 8 + t.val < 8 by show ¬ 2 * 8 + t.val < 8; omega), dif_neg (show ¬ (2 : Fin 4).val * 8 + t.val - 8 < 8 by show ¬ 2 * 8 + t.val - 8 < 8; omega),
      dif_pos (show (2 : Fin 4).val * 8 + t.val - 8 - 8 < 8 by show 2 * 8 + t.val - 8 - 8 < 8; omega)]
    exact congrArg (fun r => a2 (ix3 0 r d)) (Fin.ext (by show 2 * 8 + t.val - 8 - 8 = t.val; omega))
  | 3 =>
    rw [dif_neg (show ¬ (3 : Fin 4).val * 8 + t.val < 8 by show ¬ 3 * 8 + t.val < 8; omega), dif_neg (show ¬ (3 : Fin 4).val * 8 + t.val - 8 < 8 by show ¬ 3 * 8 + t.val - 8 < 8; omega),
      dif_neg (show ¬ (3 : Fin 4).val * 8 + t.val - 8 - 8 < 8 by show ¬ 3 * 8 + t.val - 8 - 8 < 8; omega)]
    exact congrArg (fun r => a3 (ix3 0 r d)) (Fin.ext (by show 3 * 8 + t.val - 8 - 8 - 8 = t.val; omega))

/-- The head of a query row, as the kernel's integer division. -/
def headWord (r : BitVec 32) : BitVec 32 :=
  Scalar.select
    (IntOp.andi
      (IntOp.cmpi CmpIPredicate.ne
        (IntOp.subi (BitVec.setWidth 32 (IntOp.cmpi CmpIPredicate.sgt r 0#32)) (BitVec.setWidth 32 (IntOp.cmpi CmpIPredicate.slt r 0#32)))
        (Scalar.subi (Scalar.extui (Scalar.cmpi CmpIPredicate.sgt 8#32 0#32)) (Scalar.extui (Scalar.cmpi CmpIPredicate.slt 8#32 0#32))))
      (IntOp.cmpi CmpIPredicate.ne (IntOp.remsi ArithUnit.vector r 8#32) 0#32))
    (IntOp.subi (IntOp.divsi ArithUnit.vector r 8#32) 1#32)
    (IntOp.divsi ArithUnit.vector r 8#32)

theorem headWord_eq : ∀ r : Fin 32, headWord (BitVec.ofNat 32 r.val) = BitVec.ofNat 32 (r.val / 8) := by decide +kernel

theorem pick4 (k : ℕ) (hk : k < 4) (a b c d : EReal) :
    Scalar.select (IntOp.cmpi CmpIPredicate.eq (BitVec.ofNat 32 k) 3#32) a (Scalar.select (IntOp.cmpi CmpIPredicate.eq (BitVec.ofNat 32 k) 2#32) b
      (Scalar.select (IntOp.cmpi CmpIPredicate.eq (BitVec.ofNat 32 k) 1#32) c (Scalar.select (IntOp.cmpi CmpIPredicate.eq (BitVec.ofNat 32 k) 0#32) d 0)))
    = if k = 3 then a else if k = 2 then b else if k = 1 then c else d := by
  interval_cases k <;> rfl

theorem pay1302_at (r : Fin 32) : k0_pay1302 (F := Ideal) kernelRun0_A.sl.v52 (ix2 r 0) = Cert.Ssel.slope (4 + r.val / 8) := by
  unfold k0_pay1302 kernelRun0_A.sl.v52
  pointwise []
  refine (show _ = Scalar.select (IntOp.cmpi CmpIPredicate.eq (headWord (BitVec.ofNat 32 r.val)) 3#32) (Ideal.ofBits FTy.f32 998244352#32)
    (Scalar.select (IntOp.cmpi CmpIPredicate.eq (headWord (BitVec.ofNat 32 r.val)) 2#32) (Ideal.ofBits FTy.f32 1006632960#32)
      (Scalar.select (IntOp.cmpi CmpIPredicate.eq (headWord (BitVec.ofNat 32 r.val)) 1#32) (Ideal.ofBits FTy.f32 1015021568#32)
        (Scalar.select (IntOp.cmpi CmpIPredicate.eq (headWord (BitVec.ofNat 32 r.val)) 0#32) (Ideal.ofBits FTy.f32 1023410176#32) 0))) from rfl).trans ?_
  have hr : r.val / 8 < 4 := by omega
  rw [headWord_eq, pick4 _ hr]
  generalize r.val / 8 = k at hr
  unfold Cert.Ssel.slope
  interval_cases k <;> simp [Ideal.ofBits, Ideal.ieee, -EReal.coe_mul] <;> norm_num

theorem r_1_at (r : Fin 32) : kernelRun0_A.sl.r_1 (F := Ideal) (ix2 r 0) = Cert.Ssel.slope (r.val / 8) := by
  unfold kernelRun0_A.sl.r_1 k0_pay11 kernelRun0_A.sl.v52 k0_pay9 k0_pay10
  pointwise []
  refine (show _ = Scalar.select (IntOp.cmpi CmpIPredicate.eq (headWord (BitVec.ofNat 32 r.val)) 3#32) (Ideal.ofBits FTy.f32 1031798784#32)
    (Scalar.select (IntOp.cmpi CmpIPredicate.eq (headWord (BitVec.ofNat 32 r.val)) 2#32) (Ideal.ofBits FTy.f32 1040187392#32)
      (Scalar.select (IntOp.cmpi CmpIPredicate.eq (headWord (BitVec.ofNat 32 r.val)) 1#32) (Ideal.ofBits FTy.f32 1048576000#32)
        (Scalar.select (IntOp.cmpi CmpIPredicate.eq (headWord (BitVec.ofNat 32 r.val)) 0#32) (Ideal.ofBits FTy.f32 1056964608#32) 0))) from rfl).trans ?_
  have hr : r.val / 8 < 4 := by omega
  rw [headWord_eq, pick4 _ hr]
  generalize r.val / 8 = k at hr
  unfold Cert.Ssel.slope
  interval_cases k <;> simp [Ideal.ofBits, Ideal.ieee, -EReal.coe_mul] <;> norm_num

variable (c : Dev nD) (arg1 : Memref sig .tc .vmem S1x8x512 .f32) (harg1 : arg1.IsWhole) (arg2 : Memref sig .tc .vmem S1x8x128 .f32) (harg2 : arg2.IsWhole) (arg3 : Memref sig .tc .vmem S2x2x128x128 .bf16) (harg3 : arg3.IsWhole) (arg4 : Memref sig .tc .vmem S2x2x1x1x128 .f32) (harg4 : arg4.IsWhole)
    (x0 : Vec Ideal S1x8x512 .f32) (x1 : Vec Ideal S1x8x128 .f32) (x2 : Vec Ideal S2x2x128x128 .bf16) (x3 : Vec Ideal S2x2x1x1x128 .f32)

theorem pay13_at (v : Vec Ideal S1x1x128x128 .bf16) (n d : Fin 128) : k0_pay13 v (ix2 n d) = v (ix4 0 0 n d) := by
  unfold k0_pay13; pointwise []
theorem pay14_at (v : Vec Ideal S1x1x128x128 .bf16) (n d : Fin 128) : k0_pay14 v (ix2 n d) = v (ix4 0 0 n d) := by
  unfold k0_pay14; pointwise []
theorem pay1305_at (v : Vec Ideal S1x1x128x128 .bf16) (n d : Fin 128) : k0_pay1305 v (ix2 n d) = v (ix4 0 0 n d) := by
  unfold k0_pay1305; pointwise []
theorem pay15_at (v : Vec Ideal S1x1x1x1x128 .f32) (d : Fin 64) : k0_pay15 v (ix2 0 d) = v (ix5 0 0 0 0 ⟨d.val, by omega⟩) := by
  unfold k0_pay15; pointwise []
theorem pay1306_at (v : Vec Ideal S1x1x1x1x128 .f32) (d : Fin 64) : k0_pay1306 v (ix2 0 d) = v (ix5 0 0 0 0 ⟨d.val, by omega⟩) := by
  unfold k0_pay1306; pointwise []

theorem ld4 (o : Fin 4 → ℕ) (inb : ∀ a, o a + (S1x1x128x128.size) a ≤ S2x2x128x128.size a) (n d : Fin 128) (g k : Fin 2) (h0 : o 0 = g.val) (h1 : o 1 = k.val) (h2 : o 2 = 0) (h3 : o 3 = 0) :
    View.readAt (Elt Ideal) arg3.view (Rect.unit (s := S2x2x128x128) o S1x1x128x128.size inb).toLoadRect (harg3.unread x2) (ix4 0 0 n d) = x2 (ix4 g k n d) := by
  refine (Memref.IsWhole.readAt_unread harg3 x2 _ _).trans (congrArg x2 ?_)
  funext i
  match i with
  | ⟨0, _⟩ => exact Fin.ext (by show o 0 + 1 * 0 = g.val; omega)
  | ⟨1, _⟩ => exact Fin.ext (by show o 1 + 1 * 0 = k.val; omega)
  | ⟨2, _⟩ => exact Fin.ext (by show o 2 + 1 * n.val = n.val; omega)
  | ⟨3, _⟩ => exact Fin.ext (by show o 3 + 1 * d.val = d.val; omega)

theorem ld5 (o : Fin 5 → ℕ) (inb : ∀ a, o a + (S1x1x1x1x128.size) a ≤ S2x2x1x1x128.size a) (d : Fin 128) (g k : Fin 2) (h0 : o 0 = g.val) (h1 : o 1 = k.val) (h2 : o 2 = 0) (h3 : o 3 = 0) (h4 : o 4 = 0) :
    View.readAt (Elt Ideal) arg4.view (Rect.unit (s := S2x2x1x1x128) o S1x1x1x1x128.size inb).toLoadRect (harg4.unread x3) (ix5 0 0 0 0 d) = x3 (ix5 g k 0 0 d) := by
  refine (Memref.IsWhole.readAt_unread harg4 x3 _ _).trans (congrArg x3 ?_)
  funext i
  match i with
  | ⟨0, _⟩ => exact Fin.ext (by show o 0 + 1 * 0 = g.val; omega)
  | ⟨1, _⟩ => exact Fin.ext (by show o 1 + 1 * 0 = k.val; omega)
  | ⟨2, _⟩ => exact Fin.ext (by show o 2 + 1 * 0 = 0; omega)
  | ⟨3, _⟩ => exact Fin.ext (by show o 3 + 1 * 0 = 0; omega)
  | ⟨4, _⟩ => exact Fin.ext (by show o 4 + 1 * d.val = d.val; omega)

theorem ld3 (o : Fin 3 → ℕ) (inb : ∀ a, o a + (S1x8x64.size) a ≤ S1x8x512.size a) (t : Fin 8) (d : Fin 64) (e : Fin 512) (h0 : o 0 = 0) (h1 : o 1 = 0) (h2 : o 2 + d.val = e.val) :
    View.readAt (Elt Ideal) arg1.view (Rect.unit (s := S1x8x512) o S1x8x64.size inb).toLoadRect (harg1.unread x0) (ix3 0 t d) = x0 (ix3 0 t e) := by
  refine (Memref.IsWhole.readAt_unread harg1 x0 _ _).trans (congrArg x0 ?_)
  funext i
  match i with
  | ⟨0, _⟩ => exact Fin.ext (by show o 0 + 1 * 0 = 0; omega)
  | ⟨1, _⟩ => exact Fin.ext (by show o 1 + 1 * t.val = t.val; omega)
  | ⟨2, _⟩ => exact Fin.ext (by show o 2 + 1 * d.val = e.val; omega)

theorem r_2_at (n d : Fin 128) : kernelRun0_A.sl.r_2 c arg3 harg3 x2 (ix2 n d) = x2 (ix4 0 0 n d) := by
  unfold kernelRun0_A.sl.r_2
  rw [pay13_at]
  exact ld4 arg3 harg3 x2 _ _ n d 0 0 rfl rfl rfl rfl
theorem r_3_at (n d : Fin 128) : kernelRun0_A.sl.r_3 c arg3 harg3 x2 (ix2 n d) = x2 (ix4 0 1 n d) := by
  unfold kernelRun0_A.sl.r_3
  rw [pay14_at]
  exact ld4 arg3 harg3 x2 _ _ n d 0 1 rfl rfl rfl rfl
theorem ck1_at (n d : Fin 128) : ck1 arg3 harg3 x2 (ix2 n d) = x2 (ix4 1 0 n d) := by
  unfold ck1
  dsimp only
  rw [pay13_at]
  exact ld4 arg3 harg3 x2 _ _ n d 1 0 rfl rfl rfl rfl
theorem r_756_at (n d : Fin 128) : kernelRun0_A.sl.r_756 c arg3 harg3 x2 (ix2 n d) = x2 (ix4 1 1 n d) := by
  unfold kernelRun0_A.sl.r_756
  rw [pay1305_at]
  exact ld4 arg3 harg3 x2 _ _ n d 1 1 rfl rfl rfl rfl
theorem kn0_at (d : Fin 128) : kn0 arg4 harg4 x3 (ix5 0 0 0 0 d) = x3 (ix5 0 0 0 0 d) := ld5 arg4 harg4 x3 _ _ d 0 0 rfl rfl rfl rfl rfl
theorem kn1_at (d : Fin 128) : kn1 arg4 harg4 x3 (ix5 0 0 0 0 d) = x3 (ix5 1 0 0 0 d) := ld5 arg4 harg4 x3 _ _ d 1 0 rfl rfl rfl rfl rfl
theorem r_4_at (d : Fin 64) : kernelRun0_A.sl.r_4 c arg4 harg4 x3 (ix2 0 d) = x3 (ix5 0 1 0 0 ⟨d.val, by omega⟩) := by
  unfold kernelRun0_A.sl.r_4
  rw [pay15_at]
  exact ld5 arg4 harg4 x3 _ _ _ 0 1 rfl rfl rfl rfl rfl
theorem r_757_at (d : Fin 64) : kernelRun0_A.sl.r_757 c arg4 harg4 x3 (ix2 0 d) = x3 (ix5 1 1 0 0 ⟨d.val, by omega⟩) := by
  unfold kernelRun0_A.sl.r_757
  rw [pay1306_at]
  exact ld5 arg4 harg4 x3 _ _ _ 1 1 rfl rfl rfl rfl rfl
theorem r_at (h : Fin 4) (t : Fin 8) (d : Fin 64) : kernelRun0_A.sl.r c arg1 harg1 x0 (ix2 ⟨h.val * 8 + t.val, by omega⟩ d) = x0 (ix3 0 t ⟨h.val * 64 + d.val, by omega⟩) := by
  unfold kernelRun0_A.sl.r
  rw [pay7_at]
  match h with
  | 0 => exact ld3 arg1 harg1 x0 _ _ t d _ rfl rfl rfl
  | 1 => exact ld3 arg1 harg1 x0 _ _ t d _ rfl rfl rfl
  | 2 => exact ld3 arg1 harg1 x0 _ _ t d _ rfl rfl rfl
  | 3 => exact ld3 arg1 harg1 x0 _ _ t d _ rfl rfl rfl
theorem r_755_at (h : Fin 4) (t : Fin 8) (d : Fin 64) : kernelRun0_A.sl.r_755 c arg1 harg1 x0 (ix2 ⟨h.val * 8 + t.val, by omega⟩ d) = x0 (ix3 0 t ⟨256 + h.val * 64 + d.val, by omega⟩) := by
  unfold kernelRun0_A.sl.r_755
  rw [show k0_pay1300 (F := Ideal) = k0_pay7 from rfl, pay7_at]
  match h with
  | 0 => exact ld3 arg1 harg1 x0 _ _ t d _ rfl rfl rfl
  | 1 => exact ld3 arg1 harg1 x0 _ _ t d _ rfl rfl rfl
  | 2 => exact ld3 arg1 harg1 x0 _ _ t d _ rfl rfl rfl
  | 3 => exact ld3 arg1 harg1 x0 _ _ t d _ rfl rfl rfl

end Cert.KernelIdeal.Words
-- ==== Proof.SselRefBits.lean ====
module

public import proofs.«01_k».proof.Proof.SselSort
public import Mathlib.Data.BitVec

@[expose] public section

set_option maxRecDepth 20000

noncomputable section

/-! The reference's bit words: for each page, the tokens and halves that chose it. -/

namespace Cert.Ssel

open Idealize.ShloMosaic

/-- Bit `k` where entry `n` is among the sixteen greatest of `x`. -/
def bit (x : Fin 257 → EReal) (n : Fin 257) (k : ℕ) : BitVec 32 := if rank x n < 16 then BitVec.ofNat 32 (2 ^ k) else 0#32

/-- The word of page `l`. -/
def pastBits (x : Fin 8 → Fin 257 → EReal) (l : Fin 128) : BitVec 32 :=
  ∑ t : Fin 8, (bit (x t) ⟨2 * l.val, by omega⟩ (2 * t.val) + bit (x t) ⟨2 * l.val + 1, by omega⟩ (2 * t.val + 1))

/-- The word of the new block, in lane 0. -/
def newBits (x : Fin 8 → Fin 257 → EReal) (l : Fin 128) : BitVec 32 :=
  if l.val = 0 then ∑ t : Fin 8, bit (x t) ⟨256, by decide⟩ t.val else 0#32

theorem fold_addi {α : Type} [DecidableEq α] (s : Finset α) (f : α → BitVec 32) : Finset.fold IntOp.addi 0#32 f s = ∑ k ∈ s, f k := by
  induction s using Finset.induction_on with
  | empty => rfl
  | insert a s ha ih =>
    rw [Finset.fold_insert ha, Finset.sum_insert ha, ih]
    rfl

end Cert.Ssel

namespace Cert.ReferenceIdeal.Val

open Cert.ReferenceIdeal Cert.ReferenceIdeal.Gen Cert.ReferenceIdeal.Read Idealize.ShloMosaic Idealize.ShloMosaic.TcCoe Idealize.SL.Sem

variable (x0 : (⟨S1x256x512, .bf16⟩ : BufTy).Contents (Elt Ideal)) (x1 : (⟨S1x256x128, .f32⟩ : BufTy).Contents (Elt Ideal)) (x2 : (⟨S2x2x4096x128, .bf16⟩ : BufTy).Contents (Elt Ideal)) (x3 : (⟨S2x2x32x128, .bf16⟩ : BufTy).Contents (Elt Ideal))
  (b : Fin 32) (g : Fin 2)

theorem v117 : ∀ (t : Fin 8) (n : Fin 2), val_main_v117 (F := Ideal) (ix2 t n) = BitVec.ofNat 32 (2 ^ (2 * t.val + n.val)) := by
  have h : ∀ (t : Fin 8) (n : Fin 2), val_main_v117 (F := Ideal) (ix2 t n) = IntOp.shli .host (1#32) (IntOp.addi (IntOp.muli (2#32) (BitVec.ofNat 32 t.val)) (BitVec.ofNat 32 n.val)) := by
    intro t n
    unfold val_main_v117 val_main_v116 val_main_v115 val_main_v114 val_main_v113 val_main_v112 val_main_v111 val_main_v110 val_main_v109 val_main_v108 val_main_v107 val_main_c_20 val_main_c_19
    pointwise []
  have h' : ∀ (t : Fin 8) (n : Fin 2), IntOp.shli .host (1#32) (IntOp.addi (IntOp.muli (2#32) (BitVec.ofNat 32 t.val)) (BitVec.ofNat 32 n.val)) = BitVec.ofNat 32 (2 ^ (2 * t.val + n.val)) := by decide +kernel
  intro t n
  rw [h, h']

theorem muli_bit (p : Prop) [Decidable p] (v : BitVec 32) : IntOp.muli (BitVec.setWidth 32 (BitVec.ofBool (decide p))) v = if p then v else 0#32 := by
  show BitVec.setWidth 32 (BitVec.ofBool (decide p)) * v = _
  by_cases h : p
  · rw [decide_eq_true h, if_pos h]; exact BitVec.one_mul v
  · rw [decide_eq_false h, if_neg h]; exact BitVec.zero_mul

theorem drop0 (i : S32x2x128x8x2.Idx) : (reducesTo_S32x2x128x8x2_S32x2x128_d3_4.drop i 0).val = (i 0).val := rfl
theorem drop1 (i : S32x2x128x8x2.Idx) : (reducesTo_S32x2x128x8x2_S32x2x128_d3_4.drop i 1).val = (i 1).val := rfl
theorem drop2 (i : S32x2x128x8x2.Idx) : (reducesTo_S32x2x128x8x2_S32x2x128_d3_4.drop i 2).val = (i 2).val := rfl

theorem drop_sum (l : Fin 128) (f : S32x2x128x8x2.Idx → BitVec 32) :
    ∑ i ∈ Finset.univ.filter (fun i => reducesTo_S32x2x128x8x2_S32x2x128_d3_4.drop i = ix3 b g l), f i = ∑ p : Fin 8 × Fin 2, f (ix5 b g l p.1 p.2) := by
  have hs : (Finset.univ.filter (fun i => reducesTo_S32x2x128x8x2_S32x2x128_d3_4.drop i = ix3 b g l))
      = (Finset.univ : Finset (Fin 8 × Fin 2)).image (fun p => (ix5 b g l p.1 p.2 : S32x2x128x8x2.Idx)) := by
    ext i
    rw [Finset.mem_filter, Finset.mem_image]
    constructor
    · rintro ⟨_, h⟩
      refine ⟨((i 3 : Fin 8), (i 4 : Fin 2)), Finset.mem_univ _, ?_⟩
      have e0 : (i 0).val = b.val := (drop0 i).symm.trans (congrArg Fin.val (congrFun h 0))
      have e1 : (i 1).val = g.val := (drop1 i).symm.trans (congrArg Fin.val (congrFun h 1))
      have e2 : (i 2).val = l.val := (drop2 i).symm.trans (congrArg Fin.val (congrFun h 2))
      funext x
      match x with
      | ⟨0, _⟩ => exact Fin.ext e0.symm
      | ⟨1, _⟩ => exact Fin.ext e1.symm
      | ⟨2, _⟩ => exact Fin.ext e2.symm
      | ⟨3, _⟩ => rfl
      | ⟨4, _⟩ => rfl
    · rintro ⟨p, _, rfl⟩
      refine ⟨Finset.mem_univ _, ?_⟩
      funext x
      match x with
      | ⟨0, _⟩ => exact Fin.ext (drop0 _)
      | ⟨1, _⟩ => exact Fin.ext (drop1 _)
      | ⟨2, _⟩ => exact Fin.ext (drop2 _)
  rw [hs, Finset.sum_image]
  rintro ⟨p1, p2⟩ _ ⟨q1, q2⟩ _ h
  exact Prod.ext (congrFun h 3) (congrFun h 4)

theorem v124 (l : Fin 128) : val_main_v124 (F := Ideal) x0 x2 x3 (ix3 b g l) = Cert.Ssel.pastBits (fun t => S x0 x2 x3 b t g) l := by
  have h124 : val_main_v124 (F := Ideal) x0 x2 x3 (ix3 b g l) = ∑ p : Fin 8 × Fin 2, val_main_v123 (F := Ideal) x0 x2 x3 (ix5 b g l p.1 p.2) := by
    unfold val_main_v124 val_main_c_21
    generalize val_main_v123 (F := Ideal) x0 x2 x3 = c
    rw [← drop_sum]
    pointwise []
    exact Cert.Ssel.fold_addi _ _
  have h123 : ∀ (t : Fin 8) (n : Fin 2), val_main_v123 (F := Ideal) x0 x2 x3 (ix5 b g l t n) = Cert.Ssel.bit (S x0 x2 x3 b t g) ⟨2 * l.val + n.val, by omega⟩ (2 * t.val + n.val) := by
    intro t n
    have hm := mask x0 x2 x3 b t g ⟨l.val * 2 + n.val, by omega⟩
    have h117 := v117 t n
    unfold val_main_v123 val_main_v120 val_main_v119 val_main_v118 val_main_v106 val_main_v122 val_main_v121
    generalize val_main_v105 (F := Ideal) x0 x2 x3 = c at hm
    generalize val_main_v117 (F := Ideal) = z at h117
    pointwise [h117]
    refine (congrArg (fun u => IntOp.muli (BitVec.setWidth 32 u) _) hm).trans ((muli_bit _ _).trans ?_)
    unfold Cert.Ssel.bit
    rw [show (⟨l.val * 2 + n.val, by omega⟩ : Fin 257) = ⟨2 * l.val + n.val, by omega⟩ from Fin.ext (by show l.val * 2 + n.val = 2 * l.val + n.val; omega)]
  rw [h124, Fintype.sum_prod_type]
  unfold Cert.Ssel.pastBits
  refine Finset.sum_congr rfl fun t _ => ?_
  rw [Fin.sum_univ_two]
  exact congrArg₂ _ (h123 t 0) (h123 t 1)

theorem v133 : val_main_v133 (F := Ideal) x0 x2 x3 (ix2 b g) = ∑ t : Fin 8, Cert.Ssel.bit (S x0 x2 x3 b t g) ⟨256, by decide⟩ t.val := by
  have hm := mask x0 x2 x3 b
  unfold val_main_v133 val_main_v132 val_main_v131 val_main_v130 val_main_v129 val_main_v128 val_main_v107 val_main_v127 val_main_v126 val_main_v125 val_main_v106 val_main_c_22 val_main_c_23
  generalize val_main_v105 (F := Ideal) x0 x2 x3 = c at hm
  pointwise []
  refine (Cert.Ssel.fold_addi _ _).trans ?_
  refine Finset.sum_congr rfl fun t _ => ?_
  have h' : ∀ (t : Fin 8), IntOp.shli .host (1#32) (BitVec.ofNat 32 t.val) = BitVec.ofNat 32 (2 ^ t.val) := by decide +kernel
  rw [h']
  refine (congrArg (fun u => IntOp.muli (BitVec.setWidth 32 u) _) (hm t g ⟨256, by decide⟩)).trans ?_
  exact muli_bit _ _

/-- The reference's words of the past pages. -/
theorem v138_past (l : Fin 128) : val_main_v138 (F := Ideal) x0 x2 x3 (ix4 b g 0 l) = Cert.Ssel.pastBits (fun t => S x0 x2 x3 b t g) l := by
  rw [← v124]
  unfold val_main_v138 val_main_v136
  generalize val_main_v124 (F := Ideal) x0 x2 x3 = c
  generalize val_main_v137 (F := Ideal) x0 x2 x3 = c
  pointwise []

/-- The reference's words of the new page. -/
theorem v138_new (l : Fin 128) : val_main_v138 (F := Ideal) x0 x2 x3 (ix4 b g 1 l) = Cert.Ssel.newBits (fun t => S x0 x2 x3 b t g) l := by
  unfold Cert.Ssel.newBits
  rw [← v133]
  have h135 : val_main_v135 (F := Ideal) x0 x2 x3 (ix3 b g l) = if l.val < 1 then val_main_v133 (F := Ideal) x0 x2 x3 (ix2 b g) else 0#32 := by
    unfold val_main_v135 val_main_v134 val_main_call5_v0 val_main_c_24
    simp only [id_eq]
    generalize val_main_v133 (F := Ideal) x0 x2 x3 = c
    pointwise []
    exact dite_eq_ite
  have h138 : val_main_v138 (F := Ideal) x0 x2 x3 (ix4 b g 1 l) = val_main_v135 (F := Ideal) x0 x2 x3 (ix3 b g l) := by
    unfold val_main_v138 val_main_v137
    generalize val_main_v136 (F := Ideal) x0 x2 x3 = c
    generalize val_main_v135 (F := Ideal) x0 x2 x3 = c
    pointwise []
  rw [h138, h135]
  exact if_congr (by omega) rfl rfl

end Cert.ReferenceIdeal.Val
-- ==== Proof.SselKerBits.lean ====
module

public import proofs.«01_k».proof.Proof.SselRank
public import proofs.«01_k».proof.Proof.SselRefBits

@[expose] public section

set_option maxRecDepth 20000

noncomputable section

/-! The kernel's bit words of one group. -/

namespace Cert.KernelIdeal.Words

open Cert.KernelIdeal Cert.KernelIdeal.Gen Idealize.ShloMosaic Idealize.ShloMosaic.TcCoe Idealize.SL.Sem

theorem lt257 : 256 < 257 := by decide

variable (a b : FVec Ideal S8x128 .f32) (n : FVec Ideal S8x1 .f32) (x : Fin 8 → Fin 257 → EReal)

theorem tok_at (t : Fin 8) : tok (ix2 t 0) = BitVec.ofNat 32 t.val := by
  unfold tok
  pointwise []

theorem pay5' (l : Fin 128) : k0_pay5 (ix2 0 l) = if l.val = 0 then 1#1 else 0#1 := by
  revert l; decide +kernel

theorem select_bool (p : Prop) [Decidable p] (u v : BitVec 32) : Scalar.select (BitVec.ofBool (decide p)) u v = if p then u else v := by
  by_cases h : p <;> simp [h, Scalar.select]

theorem select_and (p : Prop) [Decidable p] (u v : BitVec 32) : Scalar.select (IntOp.andi (BitVec.ofBool (decide p)) 1#1) u v = if p then u else v := by
  by_cases h : p <;> simp [h, Scalar.select, IntOp.andi]

theorem select_and0 (u : BitVec 1) (a : BitVec 32) : Scalar.select (IntOp.andi u 0#1) a 0#32 = 0#32 := by
  simp [Scalar.select, IntOp.andi]

theorem ge_count (s m : EReal) : (if m ≤ s then 1#32 else 0#32 : BitVec 32) = BitVec.ofNat 32 (if m < s ∨ s = m then 1 else 0) := by
  by_cases h : m ≤ s
  · rw [if_pos h, if_pos (h.lt_or_eq.imp id Eq.symm)]
  · rw [if_neg h, if_neg (by rintro (h' | h'); exacts [h h'.le, h h'.ge])]

theorem sum_ofNat {α : Type} [DecidableEq α] (s : Finset α) (f : α → ℕ) : ∑ k ∈ s, BitVec.ofNat 32 (f k) = BitVec.ofNat 32 (∑ k ∈ s, f k) := by
  induction s using Finset.induction_on with
  | empty => rfl
  | insert a s ha ih => rw [Finset.sum_insert ha, Finset.sum_insert ha, ih, BitVec.ofNat_add]

theorem past_at
  (ha : ∀ (t : Fin 8) (l : Fin 128), a (ix2 t l) = x t ⟨2 * l.val, by omega⟩) (hb : ∀ (t : Fin 8) (l : Fin 128), b (ix2 t l) = x t ⟨2 * l.val + 1, by omega⟩)
  (hn : ∀ t : Fin 8, n (ix2 t 0) = x t ⟨256, lt257⟩)
  (l : Fin 128) : k0_pay1298 (k0_pay1296 tok (sel0 a b n) (sel1 a b n)) (ix4 0 0 0 l) = Cert.Ssel.pastBits x l := by
  have h0 := fun t => sel0_at a b n (x t) t (ha t) (hb t) (hn t) l
  have h1 := fun t => sel1_at a b n (x t) t (ha t) (hb t) (hn t) l
  have ht := tok_at
  unfold k0_pay1298 k0_pay1296
  generalize sel0 a b n = u at h0
  generalize sel1 a b n = v at h1
  generalize tok = z at ht
  pointwise []
  refine (Cert.Ssel.fold_addi _ _).trans (Finset.sum_congr rfl fun t _ => ?_)
  rw [h0, h1, ht]
  have hs0 : ∀ t : Fin 8, IntOp.shli .vector (1#32) (IntOp.muli (2#32) (BitVec.ofNat 32 t.val)) = BitVec.ofNat 32 (2 ^ (2 * t.val)) := by decide +kernel
  have hs1 : ∀ t : Fin 8, IntOp.muli (2#32) (BitVec.ofNat 32 (2 ^ (2 * t.val))) = BitVec.ofNat 32 (2 ^ (2 * t.val + 1)) := by decide +kernel
  rw [hs0, hs1, select_bool, select_bool]
  rfl

theorem new_at
  (ha : ∀ (t : Fin 8) (l : Fin 128), a (ix2 t l) = x t ⟨2 * l.val, by omega⟩) (hb : ∀ (t : Fin 8) (l : Fin 128), b (ix2 t l) = x t ⟨2 * l.val + 1, by omega⟩)
  (hn : ∀ t : Fin 8, n (ix2 t 0) = x t ⟨256, lt257⟩)
  (l : Fin 128) : k0_pay1298 (k0_pay1297 k0_pay5 tok b n (k0_pay1295 a n)) (ix4 0 0 0 l) = Cert.Ssel.newBits x l := by
  have h5 := pay5' l
  have ht := tok_at
  have hA : ∀ (t : Fin 8) (m : Fin 128), Scalar.select (k0_pay1295 a n (ix2 t m)) 1#32 0#32 = BitVec.ofNat 32 (ind (fun m => x t ⟨2 * m.val, by omega⟩) (fun m => 2 * m) (x t ⟨256, by decide⟩) 256 m) := by
    intro t m
    have h : k0_pay1295 a n (ix2 t m) = BitVec.ofBool (decide (n (ix2 t 0) ≤ a (ix2 t m))) := by
      unfold k0_pay1295
      pointwise []
    rw [h, select_bool, ha, hn, ge_count]
    refine congrArg (BitVec.ofNat 32) ?_
    unfold ind
    by_cases hc : x t ⟨256, by decide⟩ < x t ⟨2 * m.val, by omega⟩ ∨ x t ⟨2 * m.val, by omega⟩ = x t ⟨256, by decide⟩
    · exact (if_pos hc).trans (if_pos (hc.imp id fun h => ⟨h, by show 2 * m.val < 256; omega⟩)).symm
    · exact (if_neg hc).trans (if_neg fun h => hc (h.imp id And.left)).symm
  have hB : ∀ (t : Fin 8) (m : Fin 128), (if n (ix2 t 0) ≤ b (ix2 t m) then 1#32 else 0#32 : BitVec 32) = BitVec.ofNat 32 (ind (fun m => x t ⟨2 * m.val + 1, by omega⟩) (fun m => 2 * m + 1) (x t ⟨256, by decide⟩) 256 m) := by
    intro t m
    rw [hb, hn, ge_count]
    refine congrArg (BitVec.ofNat 32) ?_
    unfold ind
    by_cases hc : x t ⟨256, by decide⟩ < x t ⟨2 * m.val + 1, by omega⟩ ∨ x t ⟨2 * m.val + 1, by omega⟩ = x t ⟨256, by decide⟩
    · exact (if_pos hc).trans (if_pos (hc.imp id fun h => ⟨h, by show 2 * m.val + 1 < 256; omega⟩)).symm
    · exact (if_neg hc).trans (if_neg fun h => hc (h.imp id And.left)).symm
  unfold k0_pay1298 k0_pay1297
  generalize k0_pay1295 a n = c at hA
  generalize k0_pay5 = w at h5
  generalize tok = z at ht
  pointwise [h5]
  have hfold := fun (f : Fin 128 → BitVec 32) => Cert.Ssel.fold_addi (Finset.univ : Finset (Fin 128)) f
  have hadd : ∀ p q : ℕ, IntOp.addi (BitVec.ofNat 32 p) (BitVec.ofNat 32 q) = BitVec.ofNat 32 (p + q) := fun p q => by rw [BitVec.ofNat_add]; rfl
  have key : ∀ t : Fin 8, IntOp.cmpi CmpIPredicate.slt (IntOp.addi
        (Finset.fold IntOp.addi (0#32) (fun m : Fin 128 => Scalar.select (c (ix2 t m)) 1#32 0#32) Finset.univ)
        (Finset.fold IntOp.addi (0#32) (fun m : Fin 128 => if n (ix2 t 0) ≤ b (ix2 t m) then 1#32 else 0#32) Finset.univ)) 16#32
      = BitVec.ofBool (decide (Cert.Ssel.rank (x t) ⟨256, by decide⟩ < 16)) := by
    intro t
    rw [hfold, hfold, Finset.sum_congr rfl fun m _ => hA t m, Finset.sum_congr rfl fun m _ => hB t m, sum_ofNat, sum_ofNat]
    have hr := rank_sum (x t) ⟨256, by decide⟩
    rw [if_neg (lt_irrefl _), add_zero] at hr
    have hl := rank_lt (x t) ⟨256, by decide⟩
    rw [hr] at hl ⊢
    exact (congrArg (fun u => IntOp.cmpi CmpIPredicate.slt u 16#32) (hadd _ _)).trans (slt_small _ 16 hl (by decide))
  unfold Cert.Ssel.newBits
  refine (Cert.Ssel.fold_addi _ _).trans ?_
  have hs0 : ∀ t : Fin 8, IntOp.shli .vector (1#32) (BitVec.ofNat 32 t.val) = BitVec.ofNat 32 (2 ^ t.val) := by decide +kernel
  by_cases hl : l.val = 0
  · rw [if_pos hl, if_pos hl]
    refine Finset.sum_congr rfl fun t _ => ?_
    refine (congrArg₂ (fun u v => Scalar.select (IntOp.andi u 1#1) (IntOp.shli .vector 1#32 v) 0#32) (key t) (ht t)).trans ?_
    show Scalar.select (IntOp.andi (BitVec.ofBool (decide (Cert.Ssel.rank (x t) ⟨256, by decide⟩ < 16))) 1#1) (IntOp.shli .vector 1#32 (BitVec.ofNat 32 t.val)) 0#32 = _
    rw [hs0]
    exact select_and _ _ _
  · rw [if_neg hl, if_neg hl]
    refine Finset.sum_eq_zero fun t _ => ?_
    exact select_and0 _ _

end Cert.KernelIdeal.Words
-- ==== Proof.SselRef.lean ====
module

public import proofs.«01_k».proof.Proof.SselSort
public import proofs.«01_k».proof.Proof.SselSpec

@[expose] public section

set_option maxRecDepth 20000

noncomputable section

/-! The reference's stages, row by row. -/

namespace Cert.ReferenceIdeal.Val

open Cert.ReferenceIdeal Cert.ReferenceIdeal.Gen Cert.ReferenceIdeal.Read Idealize.ShloMosaic Idealize.ShloMosaic.TcCoe Idealize.SL.Sem

variable (x0 : (⟨S1x256x512, .bf16⟩ : BufTy).Contents (Elt Ideal)) (x1 : (⟨S1x256x128, .f32⟩ : BufTy).Contents (Elt Ideal)) (x2 : (⟨S2x2x4096x128, .bf16⟩ : BufTy).Contents (Elt Ideal)) (x3 : (⟨S2x2x32x128, .bf16⟩ : BufTy).Contents (Elt Ideal))
  (b : Fin 32) (t : Fin 8) (g : Fin 2) (h : Fin 4)

/-- The queries of a row. -/
def Q (d : Fin 64) : EReal := x0 (ix3 0 (⟨b.val * 8 + t.val, by omega⟩ : Fin 256) (⟨g.val * 256 + h.val * 64 + d.val, by omega⟩ : Fin 512))

/-- The keys (`c = 0`) or values (`c = 1`) of the past blocks and the new one. -/
def KV (c : Fin 2) (n : Fin 257) (d : Fin 64) : EReal := val_main_v9 (F := Ideal) x2 x3 (ix5 b n g c d)

theorem kv_past (c : Fin 2) (n : Fin 256) (d : Fin 64) : KV x2 x3 b g c ⟨n.val, by omega⟩ d
    = x2 (ix4 g c (⟨b.val * 128 + n.val / 2, by omega⟩ : Fin 4096) (⟨n.val % 2 * 64 + d.val, by omega⟩ : Fin 128)) := by
  unfold KV val_main_v9 val_main_v8 val_main_v7 val_main_v6 val_main_v5 val_main_v4 val_main_v3 val_main_v2
  pointwise []

theorem kv_new (c : Fin 2) (d : Fin 64) : KV x2 x3 b g c ⟨256, by decide⟩ d
    = x3 (ix4 g c b (⟨d.val, by omega⟩ : Fin 128)) := by
  unfold KV val_main_v9 val_main_v8 val_main_v7 val_main_v6 val_main_v5 val_main_v4 val_main_v3 val_main_v2
  pointwise []

theorem v25 (n : Fin 257) : val_main_v25 (F := Ideal) (ix2 t n) = Cert.Ssel.dist t.val n.val := by
  unfold val_main_v25 val_main_v24 val_main_v23 val_main_v22 val_main_v21 val_main_v20 val_main_v19 val_main_v18 val_main_v17 val_main_v16 val_main_v15 val_main_v14 val_main_v13 val_main_v12 val_main_v11 val_main_v10 val_main_c val_main_c_0 val_main_c_1 val_main_c_2
  pointwise []
  rfl

theorem v29 (n : Fin 257) : val_main_v29 (F := Ideal) x0 x2 x3 (ix5 b t g h n) = ∑ d, Q x0 b t g h d * KV x2 x3 b g 0 n d := by
  have h1 : ∀ d : Fin 64, val_main_v1 (F := Ideal) x0 (ix5 b t g h d) = Q x0 b t g h d := fun d => by
    unfold val_main_v1 val_main_v0 Q
    pointwise []
  unfold val_main_v29 val_main_v28 val_main_v27 val_main_v26 KV
  generalize val_main_v9 (F := Ideal) x2 x3 = c
  generalize val_main_v1 (F := Ideal) x0 = q at h1
  pointwise []
  exact Finset.sum_congr rfl fun d _ => by rw [h1 d]; exact mul_comm _ _

theorem v38 (h : Fin 8) : val_main_v38 (F := Ideal) (ix1 h) = Cert.Ssel.slope h.val := by
  unfold val_main_v38 val_main_v37 val_main_v36 val_main_v35 val_main_v34 val_main_v33 val_main_v32 val_main_v31 val_main_v30 val_main_cst val_main_cst_3 val_main_cst_4 val_main_cst_5
  pointwise []
  have h2 : Ideal.ofBits .f32 1073741824#32 = ((2 : ℝ) : EReal) := by
    simp [Ideal.ofBits, Ideal.ieee, -EReal.coe_mul]; norm_num
  have h8 : Ideal.ofBits .f32 1090519040#32 = ((8 : ℝ) : EReal) := by
    simp [Ideal.ofBits, Ideal.ieee, -EReal.coe_mul]; norm_num
  have hm : Ideal.ofBits .f32 3238002688#32 = ((-8 : ℝ) : EReal) := by
    simp [Ideal.ofBits, Ideal.ieee, -EReal.coe_mul]; norm_num
  have hs : (FloatOps.sitofp (F := Ideal) .f32 (BitVec.ofNat 32 h.val) : EReal) = ((h.val : ℝ) : EReal) := by
    show ((((BitVec.ofNat 32 h.val).toInt : ℤ) : ℝ) : EReal) = _
    rw [BitVec.toInt_eq_toNat_of_lt (by simp only [BitVec.toNat_ofNat]; omega)]
    simp only [BitVec.toNat_ofNat]
    rw [Nat.mod_eq_of_lt (by omega)]
    norm_cast
  rw [h2, h8, hm, hs]
  have e1 : ((-8 : ℝ) : EReal) * (((h.val : ℝ) : EReal) + 1) = ((-8 * (h.val + 1) : ℝ) : EReal) := by push_cast; rfl
  rw [e1]
  have e2 : Ideal.div ((-8 * (h.val + 1) : ℝ) : EReal) ((8 : ℝ) : EReal) = ((-(h.val + 1) : ℝ) : EReal) := by
    unfold Ideal.div
    rw [if_neg (by exact_mod_cast (by norm_num : (8 : ℝ) ≠ 0)), ← EReal.coe_inv, ← EReal.coe_mul]
    congr 1
    ring
  rw [e2]
  show ((Real.rpow 2 (-(h.val + 1)) : ℝ) : EReal) = _
  unfold Cert.Ssel.slope
  refine congrArg _ ?_
  show (2 : ℝ) ^ (-((h.val : ℝ) + 1)) = _
  rw [Real.rpow_neg (by norm_num), one_div, inv_pow]
  refine congrArg _ ?_
  exact_mod_cast Real.rpow_natCast 2 (h.val + 1)

theorem v50 (n : Fin 257) : val_main_v50 (F := Ideal) x0 x2 x3 (ix5 b t g h n)
    = Cert.Ssel.msc (Q x0 b t g h) (KV x2 x3 b g 0) (Cert.Ssel.slope (g.val * 4 + h.val)) t.val n := by
  have h46 : val_main_v46 (F := Ideal) x0 x2 x3 (ix5 b t g h n) = (∑ d, Q x0 b t g h d * KV x2 x3 b g 0 n d) - Cert.Ssel.slope (g.val * 4 + h.val) * Cert.Ssel.dist t.val n.val := by
    rw [← v29, ← v25, ← v38 (⟨g.val * 4 + h.val, by omega⟩ : Fin 8)]
    unfold val_main_v46 val_main_v45 val_main_v44 val_main_v43 val_main_v42 val_main_v41 val_main_v40 val_main_v39
    generalize val_main_v29 (F := Ideal) x0 x2 x3 = c
    generalize val_main_v38 (F := Ideal) = q
    generalize val_main_v25 (F := Ideal) = z
    pointwise []
  unfold Cert.Ssel.msc
  rw [← h46, ← v25]
  unfold val_main_v50 val_main_call0_v2 val_main_call0_v1 val_main_v49 val_main_v48 val_main_v47 val_main_cst_6 val_main_call0_v0 val_main_cst_7
  simp only [id_eq]
  generalize val_main_v46 (F := Ideal) x0 x2 x3 = c
  generalize val_main_v25 (F := Ideal) = q
  pointwise []

theorem v51 : val_main_v51 (F := Ideal) x0 x2 x3 (ix4 b t g h)
    = Cert.Ssel.mx (Q x0 b t g h) (KV x2 x3 b g 0) (Cert.Ssel.slope (g.val * 4 + h.val)) t.val := by
  have h50 := fun n => v50 x0 x2 x3 b t g h n
  unfold val_main_v51 val_main_cst_8 Cert.Ssel.mx
  generalize val_main_v50 (F := Ideal) x0 x2 x3 = c at h50
  pointwise []
  exact congrArg (fun f => Finset.fold max _ f Finset.univ) (funext h50)

theorem v56 (n : Fin 257) : val_main_v56 (F := Ideal) x0 x2 x3 (ix5 b t g h n)
    = Cert.Ssel.ex (Q x0 b t g h) (KV x2 x3 b g 0) (Cert.Ssel.slope (g.val * 4 + h.val)) t.val n := by
  unfold Cert.Ssel.ex
  rw [← v50, ← v51, ← v25]
  unfold val_main_v56 val_main_call1_v2 val_main_call1_v1 val_main_v49 val_main_v48 val_main_v47 val_main_v55 val_main_v54 val_main_v53 val_main_v52 val_main_cst_6 val_main_call1_v0 val_main_cst_9
  simp only [id_eq]
  generalize val_main_v50 (F := Ideal) x0 x2 x3 = c
  generalize val_main_v51 (F := Ideal) x0 x2 x3 = c
  generalize val_main_v25 (F := Ideal) = q
  pointwise []

theorem v62 (n : Fin 257) : val_main_v62 (F := Ideal) x0 x2 x3 (ix5 b t g h n)
    = Cert.Ssel.w (Q x0 b t g h) (KV x2 x3 b g 0) (Cert.Ssel.slope (g.val * 4 + h.val)) t.val n := by
  unfold Cert.Ssel.w Cert.Ssel.den
  simp only [← v56 x0 x2 x3 b t g h]
  unfold val_main_v62 val_main_v61 val_main_v60 val_main_v59 val_main_v58 val_main_v57 val_main_cst_10 val_main_cst_11
  generalize val_main_v56 (F := Ideal) x0 x2 x3 = c
  pointwise []

/-- The reference's output at a row. -/
theorem v73 (d : Fin 64) : val_main_v73 (F := Ideal) x0 x1 x2 x3 (ix3 b t (⟨g.val * 256 + h.val * 64 + d.val, by omega⟩ : Fin 512))
    = x1 (ix3 0 (⟨b.val * 8 + t.val, by omega⟩ : Fin 256) (⟨g.val * 4 + h.val, by omega⟩ : Fin 128))
      * Cert.Ssel.out (Q x0 b t g h) (KV x2 x3 b g 0) (KV x2 x3 b g 1) (Cert.Ssel.slope (g.val * 4 + h.val)) t.val d := by
  have h66 : val_main_v66 (F := Ideal) x0 x2 x3 (ix5 b t g h d) = Cert.Ssel.out (Q x0 b t g h) (KV x2 x3 b g 0) (KV x2 x3 b g 1) (Cert.Ssel.slope (g.val * 4 + h.val)) t.val d := by
    unfold Cert.Ssel.out
    simp only [← v62 x0 x2 x3 b t g h]
    unfold val_main_v66 val_main_v65 val_main_v64 val_main_v63 KV
    generalize val_main_v62 (F := Ideal) x0 x2 x3 = c
    generalize val_main_v9 (F := Ideal) x2 x3 = z
    pointwise []
    exact Finset.sum_congr rfl fun d _ => mul_comm _ _
  rw [← h66]
  have h72 : val_main_v72 (F := Ideal) x0 x1 x2 x3 (ix5 b t g h d) = x1 (ix3 0 (⟨b.val * 8 + t.val, by omega⟩ : Fin 256) (⟨g.val * 4 + h.val, by omega⟩ : Fin 128)) * val_main_v66 (F := Ideal) x0 x2 x3 (ix5 b t g h d) := by
    unfold val_main_v72 val_main_v71 val_main_v70 val_main_v69 val_main_v68 val_main_v67
    generalize val_main_v66 (F := Ideal) x0 x2 x3 = c
    pointwise []
  rw [← h72]
  unfold val_main_v73
  generalize val_main_v72 (F := Ideal) x0 x1 x2 x3 = c
  pointwise []

/-- The reference's score. -/
theorem score (n : Fin 257) : S x0 x2 x3 b t g n
    = Cert.Ssel.fs n.val (∑ h : Fin 4, Cert.Ssel.w (Q x0 b t g h) (KV x2 x3 b g 0) (Cert.Ssel.slope (g.val * 4 + h.val)) t.val n) := by
  have h74 : val_main_v74 (F := Ideal) x0 x2 x3 (ix4 b t g n) = ∑ h : Fin 4, Cert.Ssel.w (Q x0 b t g h) (KV x2 x3 b g 0) (Cert.Ssel.slope (g.val * 4 + h.val)) t.val n := by
    simp only [← v62]
    unfold val_main_v74 val_main_cst_12
    generalize val_main_v62 (F := Ideal) x0 x2 x3 = c
    pointwise []
  have h77 : ∀ t : Fin 8, val_main_v77 (F := Ideal) (ix1 t) = 256#32 := by decide +kernel
  rw [← h74]
  unfold S Cert.Ssel.fs
  rw [← h77 t]
  unfold val_main_v98 val_main_call4_v1 val_main_call4_v2 val_main_v97 val_main_v96 val_main_v95 val_main_v94 val_main_v93 val_main_call3_v1 val_main_call3_v2 val_main_v92
  unfold val_main_v91 val_main_v90 val_main_v89 val_main_v88 val_main_v87 val_main_v86 val_main_v85 val_main_v84 val_main_v83 val_main_v82 val_main_v81 val_main_v80 val_main_v79 val_main_v76 val_main_v75 val_main_v78
  unfold val_main_call4_v0 val_main_cst_17 val_main_call3_v0 val_main_cst_16 val_main_c_14 val_main_c_15
  simp only [id_eq]
  generalize val_main_v74 (F := Ideal) x0 x2 x3 = c
  generalize val_main_v77 (F := Ideal) = z
  pointwise []

end Cert.ReferenceIdeal.Val
-- ==== Proof.SselGroup.lean ====
module

public import proofs.«01_k».proof.Proof.SselLoads
public import proofs.«01_k».proof.Proof.SselKerBits
public import proofs.«01_k».proof.Proof.SselRef

@[expose] public section

set_option maxRecDepth 20000

noncomputable section

/-! One head group of the kernel body beside the reference's row. -/

namespace Cert.KernelIdeal.Words

open Cert.KernelIdeal Cert.KernelIdeal.Gen Idealize.ShloMosaic Idealize.ShloMosaic.TcCoe Idealize.SL.Sem
open Cert.ReferenceIdeal.Val (Q KV S)

/-- The head rows of block `b` and head group `g`. -/
def IsQ (q : FVec Ideal S32x64 .bf16) (a0 : FVec Ideal S1x256x512 .bf16) (b : Fin 32) (g : Fin 2) : Prop :=
  ∀ (h : Fin 4) (t : Fin 8) (d : Fin 64), q (ix2 ⟨h.val * 8 + t.val, by omega⟩ d) = a0 (ix3 0 ⟨b.val * 8 + t.val, by omega⟩ ⟨g.val * 256 + h.val * 64 + d.val, by omega⟩)

/-- The slopes of head group `g`, one to a row. -/
def IsSlope (sl : FVec Ideal S32x1 .f32) (g : Fin 2) : Prop :=
  ∀ r : Fin 32, sl (ix2 r 0) = Cert.Ssel.slope (g.val * 4 + r.val / 8)

/-- The cached rows of block `b`: keys for `c = 0`, values for `c = 1`. -/
def IsPast (x : FVec Ideal S128x128 .bf16) (a2 : FVec Ideal S2x2x4096x128 .bf16) (b : Fin 32) (g c : Fin 2) : Prop :=
  ∀ n d : Fin 128, x (ix2 n d) = a2 (ix4 g c ⟨b.val * 128 + n.val, by omega⟩ d)

section
variable (q : FVec Ideal S32x64 .bf16) (sl : FVec Ideal S32x1 .f32) (ck cv : FVec Ideal S128x128 .bf16)
  (kn : Vec Ideal S1x1x1x1x128 .f32) (vn : FVec Ideal S1x64 .f32)
  (a0 : FVec Ideal S1x256x512 .bf16) (a2 : FVec Ideal S2x2x4096x128 .bf16) (a3 : FVec Ideal S2x2x32x128 .bf16)
  (b : Fin 32) (g : Fin 2)

theorem kk_eq (c : Fin 2) (x : FVec Ideal S128x128 .bf16) (hx : IsPast x a2 b g c) :
    kk x (fun d => a3 (ix4 g c b (⟨d.val, by omega⟩ : Fin 128))) = KV a2 a3 b g c := by
  funext n d
  unfold kk
  by_cases h : n.val < 256
  · rw [dif_pos h, hx]
    exact (Cert.ReferenceIdeal.Val.kv_past a2 a3 b g c ⟨n.val, h⟩ d).symm
  · rw [dif_neg h]
    obtain rfl : n = ⟨256, by decide⟩ := Fin.ext (by show n.val = 256; omega)
    exact (Cert.ReferenceIdeal.Val.kv_new a2 a3 b g c d).symm

theorem row_mod (h : Fin 4) (t : Fin 8) : (⟨h.val * 8 + t.val, by omega⟩ : Fin 32).val % 8 = t.val := by
  show (h.val * 8 + t.val) % 8 = t.val
  omega

theorem row_slope (hs : IsSlope sl g) (h : Fin 4) (t : Fin 8) : sl (ix2 (⟨h.val * 8 + t.val, by omega⟩ : Fin 32) 0) = Cert.Ssel.slope (g.val * 4 + h.val) := by
  rw [hs]
  refine congrArg Cert.Ssel.slope ?_
  show g.val * 4 + (h.val * 8 + t.val) / 8 = g.val * 4 + h.val
  omega

theorem row_q (hq : IsQ q a0 b g) (h : Fin 4) (t : Fin 8) : kq q (⟨h.val * 8 + t.val, by omega⟩ : Fin 32) = Q a0 b t g h := funext fun d => hq h t d

theorem s0_ref (hq : IsQ q a0 b g) (hs : IsSlope sl g) (hk : IsPast ck a2 b g 0) (t : Fin 8) (l : Fin 128) : s0 q sl ck kn (ix2 t l) = S a0 a2 a3 b t g ⟨2 * l.val, by omega⟩ := by
  rw [Cert.ReferenceIdeal.Val.score, s0_at]
  refine congrArg (Cert.Ssel.fs _) (Finset.sum_congr rfl fun h _ => ?_)
  rw [p0_at q sl ck kn _ (fun d => a3 (ix4 g 0 b (⟨d.val, by omega⟩ : Fin 128))) l, row_q q a0 b g hq h t, row_slope sl g hs h t, kk_eq a2 a3 b g 0 ck hk, row_mod]

theorem s1_ref (hq : IsQ q a0 b g) (hs : IsSlope sl g) (hk : IsPast ck a2 b g 0) (t : Fin 8) (l : Fin 128) : s1 q sl ck kn (ix2 t l) = S a0 a2 a3 b t g ⟨2 * l.val + 1, by omega⟩ := by
  rw [Cert.ReferenceIdeal.Val.score, s1_at]
  refine congrArg (Cert.Ssel.fs _) (Finset.sum_congr rfl fun h _ => ?_)
  rw [p1_at q sl ck kn _ (fun d => a3 (ix4 g 0 b (⟨d.val, by omega⟩ : Fin 128))) l, row_q q a0 b g hq h t, row_slope sl g hs h t, kk_eq a2 a3 b g 0 ck hk, row_mod]

theorem sn_ref (hq : IsQ q a0 b g) (hs : IsSlope sl g) (hk : IsPast ck a2 b g 0) (t : Fin 8) : sn q sl ck kn (ix2 t 0) = S a0 a2 a3 b t g ⟨256, by decide⟩ := by
  rw [Cert.ReferenceIdeal.Val.score, sn_at]
  refine congrArg (Cert.Ssel.fs _) (Finset.sum_eq_zero fun h _ => ?_).symm
  have hw := w_new q sl ck (⟨h.val * 8 + t.val, by omega⟩ : Fin 32) (fun d => a3 (ix4 g 0 b (⟨d.val, by omega⟩ : Fin 128)))
  rw [row_q q a0 b g hq h t, row_slope sl g hs h t, kk_eq a2 a3 b g 0 ck hk, row_mod] at hw
  exact hw

theorem past_ref (hq : IsQ q a0 b g) (hs : IsSlope sl g) (hk : IsPast ck a2 b g 0) (l : Fin 128) : k0_pay1298 (k0_pay1296 tok (sel0 (s0 q sl ck kn) (s1 q sl ck kn) (sn q sl ck kn)) (sel1 (s0 q sl ck kn) (s1 q sl ck kn) (sn q sl ck kn))) (ix4 0 0 0 l)
    = Cert.ReferenceIdeal.Read.val_main_v138 (F := Ideal) a0 a2 a3 (ix4 b g 0 l) := by
  rw [Cert.ReferenceIdeal.Val.v138_past]
  exact past_at _ _ _ (fun t => S a0 a2 a3 b t g) (s0_ref q sl ck kn a0 a2 a3 b g hq hs hk) (s1_ref q sl ck kn a0 a2 a3 b g hq hs hk) (sn_ref q sl ck kn a0 a2 a3 b g hq hs hk) l

theorem new_ref (hq : IsQ q a0 b g) (hs : IsSlope sl g) (hk : IsPast ck a2 b g 0) (l : Fin 128) : k0_pay1298 (k0_pay1297 k0_pay5 tok (s1 q sl ck kn) (sn q sl ck kn) (k0_pay1295 (s0 q sl ck kn) (sn q sl ck kn))) (ix4 0 0 0 l)
    = Cert.ReferenceIdeal.Read.val_main_v138 (F := Ideal) a0 a2 a3 (ix4 b g 1 l) := by
  rw [Cert.ReferenceIdeal.Val.v138_new]
  exact new_at _ _ _ (fun t => S a0 a2 a3 b t g) (s0_ref q sl ck kn a0 a2 a3 b g hq hs hk) (s1_ref q sl ck kn a0 a2 a3 b g hq hs hk) (sn_ref q sl ck kn a0 a2 a3 b g hq hs hk) l

theorem oc_ref (hq : IsQ q a0 b g) (hs : IsSlope sl g) (hk : IsPast ck a2 b g 0) (hv : IsPast cv a2 b g 1) (h : Fin 4) (t : Fin 8) (e : Fin 64) : oc q sl ck cv kn vn (ix2 ⟨h.val * 8 + t.val, by omega⟩ e)
    = Cert.Ssel.out (Q a0 b t g h) (KV a2 a3 b g 0) (KV a2 a3 b g 1) (Cert.Ssel.slope (g.val * 4 + h.val)) t.val e := by
  rw [oc_at q sl ck cv kn vn _ (fun d => a3 (ix4 g 0 b (⟨d.val, by omega⟩ : Fin 128))) (fun d => a3 (ix4 g 1 b (⟨d.val, by omega⟩ : Fin 128))) e,
    row_q q a0 b g hq h t, row_slope sl g hs h t, kk_eq a2 a3 b g 0 ck hk, kk_eq a2 a3 b g 1 cv hv, row_mod]

end

end Cert.KernelIdeal.Words
-- ==== Proof.SselValue.lean ====
module

public import proofs.«01_k».proof.Proof.SselBlocks
public import proofs.«01_k».proof.Proof.SselEntry
public import proofs.«01_k».proof.Proof.SselGroup

@[expose] public section

set_option maxRecDepth 20000

noncomputable section

/-! The two results of the select call, block by block. -/

namespace Cert.KernelIdeal.Words

open Cert.KernelIdeal Cert.KernelIdeal.Gen Idealize.ShloMosaic Idealize.ShloMosaic.TcCoe Idealize.SL.Sem
open Cert.ReferenceIdeal.Val (Q KV S)

/-- Block `b` of the query rows. -/
def IsBlock0 (x0 : Vec Ideal S1x8x512 .f32) (a0 : FVec Ideal S1x256x512 .bf16) (b : Fin 32) : Prop :=
  ∀ (t : Fin 8) (d : Fin 512), x0 (ix3 0 t d) = a0 (ix3 0 ⟨b.val * 8 + t.val, by omega⟩ d)

/-- Block `b` of the gates. -/
def IsBlock1 (x1 : Vec Ideal S1x8x128 .f32) (a1 : FVec Ideal S1x256x128 .f32) (b : Fin 32) : Prop :=
  ∀ (t : Fin 8) (d : Fin 128), x1 (ix3 0 t d) = a1 (ix3 0 ⟨b.val * 8 + t.val, by omega⟩ d)

/-- Block `b` of the cached keys and values. -/
def IsBlock2 (x2 : Vec Ideal S2x2x128x128 .bf16) (a2 : FVec Ideal S2x2x4096x128 .bf16) (b : Fin 32) : Prop :=
  ∀ (g k : Fin 2) (n d : Fin 128), x2 (ix4 g k n d) = a2 (ix4 g k ⟨b.val * 128 + n.val, by omega⟩ d)

section
variable (c : Dev nD) (i : grid0.Coords) (arg1 : Memref sig .tc .vmem S1x8x512 .f32) (harg1 : arg1.IsWhole) (arg2 : Memref sig .tc .vmem S1x8x128 .f32) (harg2 : arg2.IsWhole) (arg3 : Memref sig .tc .vmem S2x2x128x128 .bf16) (harg3 : arg3.IsWhole) (arg4 : Memref sig .tc .vmem S2x2x1x1x128 .f32) (harg4 : arg4.IsWhole)
    (arg5 : Memref sig .tc .vmem S1x8x512 .f32) (harg5 : arg5.IsWhole) (arg6 : Memref sig .tc .vmem S1x2x2x128 .i32) (harg6 : arg6.IsWhole) (arg7 : Memref sig .tc .vmem S8x512 .f32) (harg7 : arg7.IsWhole)
    (x0 : Vec Ideal S1x8x512 .f32) (x1 : Vec Ideal S1x8x128 .f32) (x2 : Vec Ideal S2x2x128x128 .bf16) (x3 : Vec Ideal S2x2x1x1x128 .f32)
    (a0 : FVec Ideal S1x256x512 .bf16) (a1 : FVec Ideal S1x256x128 .f32) (a2 : FVec Ideal S2x2x4096x128 .bf16) (a3 : FVec Ideal S2x2x32x128 .bf16) (b : Fin 32)
    (h0 : IsBlock0 x0 a0 b) (h1 : IsBlock1 x1 a1 b) (h2 : IsBlock2 x2 a2 b)

include h0 in
theorem hq0 : IsQ (kernelRun0_A.sl.r c arg1 harg1 x0) a0 b 0 := by
  intro h t d
  rw [r_at, h0 _ _]
  exact congrArg (fun e => a0 (ix3 0 _ e)) (Fin.ext (by show h.val * 64 + d.val = 0 * 256 + h.val * 64 + d.val; omega))

include h0 in
theorem hq1 : IsQ (kernelRun0_A.sl.r_755 c arg1 harg1 x0) a0 b 1 := by
  intro h t d
  rw [r_755_at, h0 _ _]
  exact congrArg (fun e => a0 (ix3 0 _ e)) (Fin.ext (by show 256 + h.val * 64 + d.val = 1 * 256 + h.val * 64 + d.val; omega))

theorem hs0 : IsSlope (kernelRun0_A.sl.r_1 (F := Ideal)) 0 := by
  intro r
  rw [r_1_at]
  exact congrArg Cert.Ssel.slope (by show r.val / 8 = 0 * 4 + r.val / 8; omega)
theorem hs1 : IsSlope (k0_pay1302 (F := Ideal) kernelRun0_A.sl.v52) 1 := fun r => pay1302_at r

include h2 in
theorem hk0 : IsPast (kernelRun0_A.sl.r_2 c arg3 harg3 x2) a2 b 0 0 := fun n d => (r_2_at c arg3 harg3 x2 n d).trans (h2 0 0 n d)
include h2 in
theorem hv0 : IsPast (kernelRun0_A.sl.r_3 c arg3 harg3 x2) a2 b 0 1 := fun n d => (r_3_at c arg3 harg3 x2 n d).trans (h2 0 1 n d)
include h2 in
theorem hk1 : IsPast (ck1 arg3 harg3 x2) a2 b 1 0 := fun n d => (ck1_at arg3 harg3 x2 n d).trans (h2 1 0 n d)
include h2 in
theorem hv1 : IsPast (kernelRun0_A.sl.r_756 c arg3 harg3 x2) a2 b 1 1 := fun n d => (r_756_at c arg3 harg3 x2 n d).trans (h2 1 1 n d)

include h0 h2

theorem group_oc (g : Fin 2) (h : Fin 4) (t : Fin 8) (e : Fin 64) :
    (![kernelRun0_A.sl.r_17 c arg1 harg1 arg3 harg3 arg4 harg4 x0 x2 x3, kernelRun0_A.sl.r_773 c arg1 harg1 arg3 harg3 arg4 harg4 x0 x2 x3] g) (ix2 ⟨h.val * 8 + t.val, by omega⟩ e)
    = Cert.Ssel.out (Q a0 b t g h) (KV a2 a3 b g 0) (KV a2 a3 b g 1) (Cert.Ssel.slope (g.val * 4 + h.val)) t.val e := by
  match g with
  | 0 =>
    show kernelRun0_A.sl.r_17 c arg1 harg1 arg3 harg3 arg4 harg4 x0 x2 x3 _ = _
    rw [r17]
    exact oc_ref _ _ _ _ _ _ a0 a2 a3 b 0 (hq0 c arg1 harg1 x0 a0 b h0) hs0 (hk0 c arg3 harg3 x2 a2 b h2) (hv0 c arg3 harg3 x2 a2 b h2) h t e
  | 1 =>
    show kernelRun0_A.sl.r_773 c arg1 harg1 arg3 harg3 arg4 harg4 x0 x2 x3 _ = _
    rw [r773]
    exact oc_ref _ _ _ _ _ _ a0 a2 a3 b 1 (hq1 c arg1 harg1 x0 a0 b h0) hs1 (hk1 arg3 harg3 x2 a2 b h2) (hv1 c arg3 harg3 x2 a2 b h2) h t e

include h1 in
theorem oc_value (g : Fin 2) (h : Fin 4) (t : Fin 8) (e : Fin 64) :
    out0_A_4 c i arg1 harg1 arg2 harg2 arg3 harg3 arg4 harg4 arg5 harg5 arg6 harg6 arg7 harg7 x0 x1 x2 x3 (ix3 0 t ⟨g.val * 256 + h.val * 64 + e.val, by omega⟩)
    = Cert.ReferenceIdeal.Read.val_main_v73 (F := Ideal) a0 a1 a2 a3 (ix3 b t ⟨g.val * 256 + h.val * 64 + e.val, by omega⟩) := by
  rw [read_oc, oc_blk, h1 _ _, Cert.ReferenceIdeal.Val.v73]
  exact congrArg _ (group_oc c arg1 harg1 arg3 harg3 arg4 harg4 x0 x2 x3 a0 a2 a3 b h0 h2 g h t e)

theorem bits_value (g k : Fin 2) (l : Fin 128) :
    out0_A_5 c i arg1 harg1 arg2 harg2 arg3 harg3 arg4 harg4 arg5 harg5 arg6 harg6 arg7 harg7 x0 x1 x2 x3 (ix4 0 g k l)
    = Cert.ReferenceIdeal.Read.val_main_v138 (F := Ideal) a0 a2 a3 (ix4 b g k l) := by
  rw [bits_blk]
  match g, k with
  | 0, 0 =>
    show k0_pay1298 (kernelRun0_A.sl.r_753 c arg1 harg1 arg3 harg3 arg4 harg4 x0 x2 x3) _ = _
    rw [bits753, r20, r21, r23]
    exact past_ref _ _ _ _ a0 a2 a3 b 0 (hq0 c arg1 harg1 x0 a0 b h0) hs0 (hk0 c arg3 harg3 x2 a2 b h2) l
  | 0, 1 =>
    show k0_pay1299 (kernelRun0_A.sl.r_754 c arg1 harg1 arg3 harg3 arg4 harg4 x0 x2 x3) _ = _
    rw [bits754, r20, r21, r23]
    exact new_ref _ _ _ _ a0 a2 a3 b 0 (hq0 c arg1 harg1 x0 a0 b h0) hs0 (hk0 c arg3 harg3 x2 a2 b h2) l
  | 1, 0 =>
    show k0_pay2575 (kernelRun0_A.sl.r_1536 c arg1 harg1 arg3 harg3 arg4 harg4 x0 x2 x3) _ = _
    rw [bits1536, r776, r777, r780]
    exact past_ref _ _ _ _ a0 a2 a3 b 1 (hq1 c arg1 harg1 x0 a0 b h0) hs1 (hk1 arg3 harg3 x2 a2 b h2) l
  | 1, 1 =>
    show kernelRun0_A.sl.r_1537 c arg1 harg1 arg3 harg3 arg4 harg4 x0 x2 x3 _ = _
    rw [bits1537, r776, r777, r780]
    exact new_ref _ _ _ _ a0 a2 a3 b 1 (hq1 c arg1 harg1 x0 a0 b h0) hs1 (hk1 arg3 harg3 x2 a2 b h2) l
end

variable (m : (ℓ : Loc nD τ sig) → Buf (Elt Ideal) ℓ)

theorem block0 (c : Dev nD) (b : Fin (cfgs 0).N) : IsBlock0 (iblk m c 0 b) (A0 m c) ⟨b.val, bt b⟩ := q_at m c b
theorem block1 (c : Dev nD) (b : Fin (cfgs 0).N) : IsBlock1 (iblk m c 1 b) (A1 m c) ⟨b.val, bt b⟩ := gate_at m c b
theorem block2 (c : Dev nD) (b : Fin (cfgs 0).N) : IsBlock2 (iblk m c 2 b) (A2 m c) ⟨b.val, bt b⟩ := past_blk m c b

theorem final4 (c : Dev nD) : (dats m 0 c).arrAt 4 (cfgs 0).N = Cert.ReferenceIdeal.Read.val_main_v73 (F := Ideal) (A0 m c) (A1 m c) (A2 m c) (A3 m c) := by
  refine (dats m 0 c).arrAt_eq_of_covers 4 _ (by decide +kernel) fun b _ y => ?_
  blk_simp
  rw [after0_4]
  obtain ⟨t, g, h, e, rfl⟩ : ∃ (t : Fin 8) (g : Fin 2) (h : Fin 4) (e : Fin 64), y = ix3 (0 : Fin 1) t (⟨g.val * 256 + h.val * 64 + e.val, by omega⟩ : Fin 512) := by
    obtain ⟨t, n, rfl⟩ : ∃ (t : Fin 8) (n : Fin 512), y = ix3 (0 : Fin 1) t n := ⟨y 1, y 2, by blk_ext []⟩
    refine ⟨t, ⟨n.val / 256, by omega⟩, ⟨n.val / 64 % 4, by omega⟩, ⟨n.val % 64, by omega⟩, congrArg (ix3 (0 : Fin 1) t) (Fin.ext ?_)⟩
    show n.val = n.val / 256 * 256 + n.val / 64 % 4 * 64 + n.val % 64
    omega
  refine Eq.trans ?_ (congrArg _ (show _ = ix3 (⟨b.val, bt b⟩ : Fin 32) t (⟨g.val * 256 + h.val * 64 + e.val, by omega⟩ : Fin 512) from by blk_ext [idx b])).symm
  unfold outsAt0
  dsimp only
  exact oc_value c (grid0.coords b) (ms0_0 b) (hs0_0 b) (ms0_1 b) (hs0_1 b) (ms0_2 b) (hs0_2 b) (ms0_3 b) (hs0_3 b) (ms0_4 b) (hs0_4 b) (ms0_5 b) (hs0_5 b) scM0_0 (Memref.isWhole_whole _) (iblk m c 0 b) (iblk m c 1 b) (iblk m c 2 b) (iblk m c 3 b) (A0 m c) (A1 m c) (A2 m c) (A3 m c) ⟨b.val, bt b⟩ (block0 m c b) (block1 m c b) (block2 m c b) g h t e

theorem final5 (c : Dev nD) : (dats m 0 c).arrAt 5 (cfgs 0).N = Cert.ReferenceIdeal.Read.val_main_v138 (F := Ideal) (A0 m c) (A2 m c) (A3 m c) := by
  refine (dats m 0 c).arrAt_eq_of_covers 5 _ (by decide +kernel) fun b _ y => ?_
  blk_simp
  rw [after0_5]
  obtain ⟨g, k, l, rfl⟩ : ∃ (g k : Fin 2) (l : Fin 128), y = ix4 (0 : Fin 1) g k l := ⟨y 1, y 2, y 3, by blk_ext []⟩
  refine Eq.trans ?_ (congrArg _ (show _ = ix4 (⟨b.val, bt b⟩ : Fin 32) g k l from by blk_ext [idx b])).symm
  unfold outsAt0
  dsimp only
  exact bits_value c (grid0.coords b) (ms0_0 b) (hs0_0 b) (ms0_1 b) (hs0_1 b) (ms0_2 b) (hs0_2 b) (ms0_3 b) (hs0_3 b) (ms0_4 b) (hs0_4 b) (ms0_5 b) (hs0_5 b) scM0_0 (Memref.isWhole_whole _) (iblk m c 0 b) (iblk m c 1 b) (iblk m c 2 b) (iblk m c 3 b) (A0 m c) (A2 m c) (A3 m c) ⟨b.val, bt b⟩ (block0 m c b) (block2 m c b) g k l

end Cert.KernelIdeal.Words
-- ==== Proof.SselClaim.lean ====
module

public import proofs.«01_k».proof.Defs
public import proofs.«01_k».proof.Proof.SselValue
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim

@[expose] public section

noncomputable section

namespace Cert.Proof

open Idealize.ShloMosaic Idealize.SL.Sem

/-- The value claim of the sample's attention over compressed blocks and choice of blocks. -/
theorem ssel_value : algebraic_KernelIdeal_ReferenceIdeal := by
  pair_intro
  · run_from Cert.KernelIdeal.Value.run_blocks m g
  · run_from Cert.ReferenceIdeal.Value.run m' g'
    all_goals obtain ⟨h0, h1, h2, h3⟩ := hagree c
    · rw [← h1]
      refine (Cert.ReferenceIdeal.Read.val_main_v73_eq (StableHlo.launchContents m' c)).trans ?_
      try simp only [h0, h1, h2, h3]
      exact (Cert.KernelIdeal.Words.final4 m c).symm
    · refine (Cert.ReferenceIdeal.Read.val_main_v138_eq (StableHlo.launchContents m' c)).trans ?_
      try simp only [h0, h2, h3]
      exact (Cert.KernelIdeal.Words.final5 m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.KernelIdeal.Value
public import proofs.«01_k».proof.Proof.Gen.MlpIdeal.Value
public import proofs.«01_k».proof.Proof.Gen.ProjIdeal.Value
public import proofs.«01_k».proof.Proof.Gen.ReferenceIdeal.Run
public import proofs.«01_k».proof.Proof.Gen.ReferenceIdeal.Read
public import proofs.«01_k».proof.Proof.Gen.MlpReferenceIdeal.Run
public import proofs.«01_k».proof.Proof.Gen.MlpReferenceIdeal.Read
public import proofs.«01_k».proof.Proof.Gen.ProjReferenceIdeal.Run
public import proofs.«01_k».proof.Proof.Gen.ProjReferenceIdeal.Read
public import proofs.«01_k».proof.Proof.ProjClaim
public import proofs.«01_k».proof.Proof.MlpClaim
public import proofs.«01_k».proof.Proof.SselClaim
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference of the sample's attention ends with its arguments unchanged. -/
theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)
/-- The reference of the MLP ends with its arguments unchanged. -/
theorem frame_ri2 : Cert.quiescent_MlpReferenceIdeal := fun m ρ _ =>
  (θ_run Cert.MlpReferenceIdeal.defs _ _).mono (fun r h => ⟨fun c => (h c).2, Idealize.ShloMosaic.sem_eq_zero_of_no_sems (by decide) r.2⟩)
    (Cert.MlpReferenceIdeal.Value.run (F := Ideal) m ρ)
/-- The reference of the projection ends with its arguments unchanged. -/
theorem frame_ri3 : Cert.quiescent_ProjReferenceIdeal := fun m ρ _ =>
  (θ_run Cert.ProjReferenceIdeal.defs _ _).mono (fun r h => ⟨fun c => (h c).2.2.2.2.2.2.2.2, Idealize.ShloMosaic.sem_eq_zero_of_no_sems (by decide) r.2⟩)
    (Cert.ProjReferenceIdeal.Value.run (F := Ideal) m ρ)

theorem claim : Cert.Claim := ⟨Cert.Kernel.Gen.facts, Cert.KernelIdeal.Gen.facts, Cert.ReferenceIdeal.Gen.facts, Cert.Mlp.Gen.facts, Cert.MlpIdeal.Gen.facts, Cert.MlpReferenceIdeal.Gen.facts, Cert.Proj.Gen.facts, Cert.ProjIdeal.Gen.facts, Cert.ProjReferenceIdeal.Gen.facts,
  fun m ρ _ => Cert.Kernel.Gen.frame m ρ, fun m ρ _ => Cert.KernelIdeal.Gen.frame m ρ, frame_ri,
  fun m ρ _ => Cert.Mlp.Gen.frame m ρ, fun m ρ _ => Cert.MlpIdeal.Gen.frame m ρ, frame_ri2,
  fun m ρ _ => Cert.Proj.Gen.frame m ρ, fun m ρ _ => Cert.ProjIdeal.Gen.frame m ρ, frame_ri3,
  trivial, ssel_value, trivial, mlp_value, trivial, proj_value⟩

end Cert.Proof

end
